-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  IdealRules.named_const.Statement Cert.KernelIdeal.κ "qscale" .f32 0x3E38AA3B#32 (((Real.log 256)⁻¹ : ℝ) : EReal)
  ∧ IdealRules.named_const.Statement Cert.KernelIdeal.κ "mask" .f32 0xFF333332#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x8192x8x2x64 : Shape := ⟨5, ![4, 8192, 8, 2, 64]⟩
abbrev S4x8192x8x128 : Shape := ⟨4, ![4, 8192, 8, 128]⟩
abbrev S1x2x64 : Shape := ⟨3, ![1, 2, 64]⟩
abbrev S1x128 : Shape := ⟨2, ![1, 128]⟩
abbrev S_ : Shape := ⟨0, ![]⟩

class Facts : Prop where
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_
  h_S_ : 0 < S_.numel
  bcast_S_S1x2x64 : S_.BroadcastsInDim S1x2x64 (![] : Fin 0 → Fin S1x2x64.rank)
  reducesTo_S1x2x64_S_d0_1_2 : S1x2x64.ReducesTo [0, 1, 2] S_

variable [Facts]

def fn_part1 {F : FTy → Type} [FloatOps F] (main_v5 : IVec S_ 1) (main_v11 : IVec S_ 1) (main_v13 : IVec S1x2x64 1) (main_v15 : IVec S1x2x64 1) : IVec S_ 1 :=
  let main_v16 : IVec S1x2x64 1 := andi main_v13 main_v15
  let main_c_6 : IVec S_ 1 := constantI S_ 1 1#1
  let main_v17 : IVec S_ 1 := (fun x v => Host.reduce IntOp.andi x v reducesTo_S1x2x64_S_d0_1_2 h_S_) main_v16 main_c_6
  let main_v18 : IVec S_ 1 := andi main_v5 main_v11
  let main_v19 : IVec S_ 1 := andi main_v18 main_v17
  main_v19

def fn {F : FTy → Type} [FloatOps F] (main_arg0 : FVec F S4x8192x8x2x64 .f32) (main_arg1 : FVec F S4x8192x8x2x64 .f32) (main_arg2 : FVec F S4x8192x8x128 .f32) (main_arg3 : FVec F S1x2x64 .f32) (main_arg4 : FVec F S1x2x64 .f32) (main_arg5 : FVec F S1x128 .f32) : IVec S_ 1 :=
  let main_cst : FVec F S_ .f32 := constant S_ .f32 0xFF800000#32
  let main_v0 : FVec F S4x8192x8x128 .f32 := broadcastInDim S4x8192x8x128 ![] bcast_S_S4x8192x8x128 main_cst
  let main_v1 : IVec S4x8192x8x128 1 := cmpf .ogt main_arg2 main_v0
  let main_cst_0 : FVec F S_ .f32 := constant S_ .f32 0x7F800000#32
  let main_v2 : FVec F S4x8192x8x128 .f32 := broadcastInDim S4x8192x8x128 ![] bcast_S_S4x8192x8x128 main_cst_0
  let main_v3 : IVec S4x8192x8x128 1 := cmpf .olt main_arg2 main_v2
  let main_v4 : IVec S4x8192x8x128 1 := andi main_v1 main_v3
  let main_c : IVec S_ 1 := constantI S_ 1 1#1
  let main_v5 : IVec S_ 1 := (fun x v => Host.reduce IntOp.andi x v reducesTo_S4x8192x8x128_S_d0_1_2_3 h_S_) main_v4 main_c
  let main_cst_1 : FVec F S_ .f32 := constant S_ .f32 0xFF800000#32
  let main_v6 : FVec F S1x2x64 .f32 := broadcastInDim S1x2x64 ![] bcast_S_S1x2x64 main_cst_1
  let main_v7 : IVec S1x2x64 1 := cmpf .ogt main_arg3 main_v6
  let main_cst_2 : FVec F S_ .f32 := constant S_ .f32 0x7F800000#32
  let main_v8 : FVec F S1x2x64 .f32 := broadcastInDim S1x2x64 ![] bcast_S_S1x2x64 main_cst_2
  let main_v9 : IVec S1x2x64 1 := cmpf .olt main_arg3 main_v8
  let main_v10 : IVec S1x2x64 1 := andi main_v7 main_v9
  let main_c_3 : IVec S_ 1 := constantI S_ 1 1#1
  let main_v11 : IVec S_ 1 := (fun x v => Host.reduce IntOp.andi x v reducesTo_S1x2x64_S_d0_1_2 h_S_) main_v10 main_c_3
  let main_cst_4 : FVec F S_ .f32 := constant S_ .f32 0xFF800000#32
  let main_v12 : FVec F S1x2x64 .f32 := broadcastInDim S1x2x64 ![] bcast_S_S1x2x64 main_cst_4
  let main_v13 : IVec S1x2x64 1 := cmpf .ogt main_arg4 main_v12
  let main_cst_5 : FVec F S_ .f32 := constant S_ .f32 0x7F800000#32
  let main_v14 : FVec F S1x2x64 .f32 := broadcastInDim S1x2x64 ![] bcast_S_S1x2x64 main_cst_5
  let main_v15 : IVec S1x2x64 1 := cmpf .olt main_arg4 main_v14
  fn_part1 (F := F) main_v5 main_v11 main_v13 main_v15
-- ==== Kernel.lean ====
abbrev S4x8192x8x2x64 : Shape := ⟨5, ![4, 8192, 8, 2, 64]⟩
abbrev S4x8192x8x128 : Shape := ⟨4, ![4, 8192, 8, 128]⟩
abbrev S1x2x64 : Shape := ⟨3, ![1, 2, 64]⟩
abbrev S1x128 : Shape := ⟨2, ![1, 128]⟩
abbrev S4x8192x1024 : Shape := ⟨3, ![4, 8192, 1024]⟩
abbrev S4x1024x8192 : Shape := ⟨3, ![4, 1024, 8192]⟩
abbrev S32768x1024 : Shape := ⟨2, ![32768, 1024]⟩
abbrev S2x64 : Shape := ⟨2, ![2, 64]⟩
abbrev S128 : Shape := ⟨1, ![128]⟩
abbrev S128x1 : Shape := ⟨2, ![128, 1]⟩
abbrev S8192x1024 : Shape := ⟨2, ![8192, 1024]⟩
abbrev S1x1024x8192 : Shape := ⟨3, ![1, 1024, 8192]⟩
abbrev S1x1024x512 : Shape := ⟨3, ![1, 1024, 512]⟩
abbrev S512x1024 : Shape := ⟨2, ![512, 1024]⟩
abbrev S8x2x128x512 : Shape := ⟨4, ![8, 2, 128, 512]⟩
abbrev S5x512x512 : Shape := ⟨3, ![5, 512, 512]⟩
abbrev S8x2x1x512 : Shape := ⟨4, ![8, 2, 1, 512]⟩
abbrev S8x2x8x512 : Shape := ⟨4, ![8, 2, 8, 512]⟩
abbrev S128x512 : Shape := ⟨2, ![128, 512]⟩
abbrev S1x128x512 : Shape := ⟨3, ![1, 128, 512]⟩
abbrev S1x1x128x512 : Shape := ⟨4, ![1, 1, 128, 512]⟩
abbrev S512x128 : Shape := ⟨2, ![512, 128]⟩
abbrev S512x512 : Shape := ⟨2, ![512, 512]⟩
abbrev S1x512x512 : Shape := ⟨3, ![1, 512, 512]⟩
abbrev S64x8x512 : Shape := ⟨3, ![64, 8, 512]⟩
abbrev S8x512 : Shape := ⟨2, ![8, 512]⟩
abbrev S1x1x1x512 : Shape := ⟨4, ![1, 1, 1, 512]⟩
abbrev S1x512 : Shape := ⟨2, ![1, 512]⟩
abbrev S512 : Shape := ⟨1, ![512]⟩
abbrev S1x1x512 : Shape := ⟨3, ![1, 1, 512]⟩
abbrev S1x1x8x512 : Shape := ⟨4, ![1, 1, 8, 512]⟩
abbrev S256x512 : Shape := ⟨2, ![256, 512]⟩
abbrev S256x256 : Shape := ⟨2, ![256, 256]⟩
abbrev S256x128 : Shape := ⟨2, ![256, 128]⟩
abbrev S1x256x512 : Shape := ⟨3, ![1, 256, 512]⟩
abbrev S32x8x512 : Shape := ⟨3, ![32, 8, 512]⟩
abbrev S1x128x256 : Shape := ⟨3, ![1, 128, 256]⟩
abbrev S128x256 : Shape := ⟨2, ![128, 256]⟩
abbrev S1x1x128x256 : Shape := ⟨4, ![1, 1, 128, 256]⟩
abbrev S1x256x256 : Shape := ⟨3, ![1, 256, 256]⟩
abbrev S32x8x256 : Shape := ⟨3, ![32, 8, 256]⟩
abbrev S8x256 : Shape := ⟨2, ![8, 256]⟩
abbrev S1x1x1x256 : Shape := ⟨4, ![1, 1, 1, 256]⟩
abbrev S1x256 : Shape := ⟨2, ![1, 256]⟩
abbrev S256 : Shape := ⟨1, ![256]⟩
abbrev S1x1x256 : Shape := ⟨3, ![1, 1, 256]⟩
abbrev S1x1x8x256 : Shape := ⟨4, ![1, 1, 8, 256]⟩
abbrev S1x64 : Shape := ⟨2, ![1, 64]⟩
abbrev S1 : Shape := ⟨1, ![1]⟩
abbrev S1x1 : Shape := ⟨2, ![1, 1]⟩

abbrev nBuf : Space → Nat
  | .hbm => 18
  | .vmem => 14
  | .smem => 0
  | _ => 0

abbrev bufTy : (tb : Table) → Fin (tcTables nBuf tb) → BufTy
  | .hbm, ⟨0, _⟩ => ⟨S4x8192x8x2x64, .f32⟩
  | .hbm, ⟨1, _⟩ => ⟨S4x8192x8x2x64, .f32⟩
  | .hbm, ⟨2, _⟩ => ⟨S4x8192x8x128, .f32⟩
  | .hbm, ⟨3, _⟩ => ⟨S1x2x64, .f32⟩
  | .hbm, ⟨4, _⟩ => ⟨S1x2x64, .f32⟩
  | .hbm, ⟨5, _⟩ => ⟨S1x128, .f32⟩
  | .hbm, ⟨6, _⟩ => ⟨S4x8192x1024, .f32⟩
  | .hbm, ⟨7, _⟩ => ⟨S4x1024x8192, .f32⟩
  | .hbm, ⟨8, _⟩ => ⟨S32768x1024, .f32⟩
  | .hbm, ⟨9, _⟩ => ⟨S32768x1024, .bf16⟩
  | .hbm, ⟨10, _⟩ => ⟨S4x8192x1024, .f32⟩
  | .hbm, ⟨11, _⟩ => ⟨S4x8192x1024, .bf16⟩
  | .hbm, ⟨12, _⟩ => ⟨S4x1024x8192, .bf16⟩
  | .hbm, ⟨13, _⟩ => ⟨S2x64, .f32⟩
  | .hbm, ⟨14, _⟩ => ⟨S2x64, .f32⟩
  | .hbm, ⟨15, _⟩ => ⟨S128, .f32⟩
  | .hbm, ⟨16, _⟩ => ⟨S128x1, .f32⟩
  | .hbm, ⟨17, _⟩ => ⟨S32768x1024, .bf16⟩
  | .local _ .vmem, ⟨0, _⟩ => ⟨S2x64, .f32⟩
  | .local _ .vmem, ⟨1, _⟩ => ⟨S2x64, .f32⟩
  | .local _ .vmem, ⟨2, _⟩ => ⟨S128x1, .f32⟩
  | .local _ .vmem, ⟨3, _⟩ => ⟨S8192x1024, .bf16⟩
  | .local _ .vmem, ⟨4, _⟩ => ⟨S1x1024x8192, .bf16⟩
  | .local _ .vmem, ⟨5, _⟩ => ⟨S1x1024x512, .f32⟩
  | .local _ .vmem, ⟨6, _⟩ => ⟨S1x1024x512, .f32⟩
  | .local _ .vmem, ⟨7, _⟩ => ⟨S512x1024, .bf16⟩
  | .local _ .vmem, ⟨8, _⟩ => ⟨S512x1024, .bf16⟩
  | .local _ .vmem, ⟨9, _⟩ => ⟨S8x2x128x512, .bf16⟩
  | .local _ .vmem, ⟨10, _⟩ => ⟨S5x512x512, .f32⟩
  | .local _ .vmem, ⟨11, _⟩ => ⟨S8x2x1x512, .f32⟩
  | .local _ .vmem, ⟨12, _⟩ => ⟨S8x2x8x512, .f32⟩
  | .local _ .vmem, ⟨13, _⟩ => ⟨S8x2x128x512, .f32⟩
  | _, _ => ⟨S4x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨3, ![4, 1, 16], ![false, false, false]⟩

@[reducible] def k0_t1_loop (i : grid0.Coords) : Scf.Loop 32 :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_119 : BitVec 32 := 1#32
  ⟨c0_i32_118, v161, c1_i32_119⟩
def k0_mult1 (i : grid0.Coords) (k0_t1 : Fin (k0_t1_loop i).trips) : BitVec 32 :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  v2238
def k0_off1 (i : grid0.Coords) (k0_t1 : Fin (k0_t1_loop i).trips) : Fin 2 → Nat :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2240 : Index := Scalar.indexCast v2239
  let c0_1732 : Index := 0#32
  ![v2240.toNat, 0]
def k0_off2 (i : grid0.Coords) (k0_t1 : Fin (k0_t1_loop i).trips) : Fin 2 → Nat :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2262 : Index := Scalar.indexCast v2239
  let c128_1752 : Index := 128#32
  ![v2262.toNat, 128]
def k0_off3 (i : grid0.Coords) (k0_t1 : Fin (k0_t1_loop i).trips) : Fin 3 → Nat :=
  let c0_1772 : Index := 0#32
  let c0_1773 : Index := 0#32
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2284 : Index := Scalar.indexCast v2239
  ![0, 0, v2284.toNat]
def k0_off4 (i : grid0.Coords) (k0_t1 : Fin (k0_t1_loop i).trips) : Fin 2 → Nat :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2324 : Index := Scalar.indexCast v2239
  let c256_1804 : Index := 256#32
  ![v2324.toNat, 256]
def k0_off5 (i : grid0.Coords) (k0_t1 : Fin (k0_t1_loop i).trips) : Fin 3 → Nat :=
  let c0_1856 : Index := 0#32
  let c128_1857 : Index := 128#32
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2386 : Index := Scalar.indexCast v2239
  ![0, 128, v2386.toNat]
def k0_off6 (i : grid0.Coords) (k0_t1 : Fin (k0_t1_loop i).trips) : Fin 2 → Nat :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2426 : Index := Scalar.indexCast v2239
  let c384_1888 : Index := 384#32
  ![v2426.toNat, 384]
def k0_off7 (i : grid0.Coords) (k0_t1 : Fin (k0_t1_loop i).trips) : Fin 3 → Nat :=
  let c0_1940 : Index := 0#32
  let c256_1941 : Index := 256#32
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2488 : Index := Scalar.indexCast v2239
  ![0, 256, v2488.toNat]
def k0_off8 (i : grid0.Coords) (k0_t1 : Fin (k0_t1_loop i).trips) : Fin 2 → Nat :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2528 : Index := Scalar.indexCast v2239
  let c512_1972 : Index := 512#32
  ![v2528.toNat, 512]
def k0_off9 (i : grid0.Coords) (k0_t1 : Fin (k0_t1_loop i).trips) : Fin 3 → Nat :=
  let c0_2024 : Index := 0#32
  let c384_2025 : Index := 384#32
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2590 : Index := Scalar.indexCast v2239
  ![0, 384, v2590.toNat]
def k0_off10 (i : grid0.Coords) (k0_t1 : Fin (k0_t1_loop i).trips) : Fin 2 → Nat :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2630 : Index := Scalar.indexCast v2239
  let c640_2056 : Index := 640#32
  ![v2630.toNat, 640]
def k0_off11 (i : grid0.Coords) (k0_t1 : Fin (k0_t1_loop i).trips) : Fin 3 → Nat :=
  let c0_2108 : Index := 0#32
  let c512_2109 : Index := 512#32
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2692 : Index := Scalar.indexCast v2239
  ![0, 512, v2692.toNat]
def k0_off12 (i : grid0.Coords) (k0_t1 : Fin (k0_t1_loop i).trips) : Fin 2 → Nat :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2732 : Index := Scalar.indexCast v2239
  let c768_2140 : Index := 768#32
  ![v2732.toNat, 768]
def k0_off13 (i : grid0.Coords) (k0_t1 : Fin (k0_t1_loop i).trips) : Fin 3 → Nat :=
  let c0_2192 : Index := 0#32
  let c640_2193 : Index := 640#32
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2794 : Index := Scalar.indexCast v2239
  ![0, 640, v2794.toNat]
def k0_off14 (i : grid0.Coords) (k0_t1 : Fin (k0_t1_loop i).trips) : Fin 2 → Nat :=
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2834 : Index := Scalar.indexCast v2239
  let c896_2224 : Index := 896#32
  ![v2834.toNat, 896]
def k0_off15 (i : grid0.Coords) (k0_t1 : Fin (k0_t1_loop i).trips) : Fin 3 → Nat :=
  let c0_2276 : Index := 0#32
  let c768_2277 : Index := 768#32
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2896 : Index := Scalar.indexCast v2239
  ![0, 768, v2896.toNat]
def k0_off16 (i : grid0.Coords) (k0_t1 : Fin (k0_t1_loop i).trips) : Fin 3 → Nat :=
  let c0_2340 : Index := 0#32
  let c896_2341 : Index := 896#32
  let c0_i32_118 : BitVec 32 := 0#32
  let c1_i32_119 : BitVec 32 := 1#32
  let arg15 : BitVec 32 := Scf.iv c0_i32_118 c1_i32_119 k0_t1
  let c512_i32_1731 : BitVec 32 := 512#32
  let v2238 : BitVec 32 := Scalar.muli arg15 c512_i32_1731
  let v2239 : BitVec 32 := v2238
  let v2976 : Index := Scalar.indexCast v2239
  ![0, 896, v2976.toNat]
@[reducible] def k0_t2_loop (i : grid0.Coords) : Scf.Loop 32 :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let v158 : BitVec 32 := Scalar.addi c0_i32_118 v157
  let c1_i32_120 : BitVec 32 := 1#32
  ⟨v161, v158, c1_i32_120⟩
def k0_mult2 (i : grid0.Coords) (k0_t2 : Fin (k0_t2_loop i).trips) : BitVec 32 :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  v2238
def k0_off17 (i : grid0.Coords) (k0_t2 : Fin (k0_t2_loop i).trips) : Fin 2 → Nat :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2240 : Index := Scalar.indexCast v2239
  let c0_1732 : Index := 0#32
  ![v2240.toNat, 0]
def k0_off18 (i : grid0.Coords) (k0_t2 : Fin (k0_t2_loop i).trips) : Fin 2 → Nat :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2262 : Index := Scalar.indexCast v2239
  let c128_1752 : Index := 128#32
  ![v2262.toNat, 128]
def k0_off19 (i : grid0.Coords) (k0_t2 : Fin (k0_t2_loop i).trips) : Fin 3 → Nat :=
  let c0_1772 : Index := 0#32
  let c0_1773 : Index := 0#32
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2284 : Index := Scalar.indexCast v2239
  ![0, 0, v2284.toNat]
def k0_off20 (i : grid0.Coords) (k0_t2 : Fin (k0_t2_loop i).trips) : Fin 2 → Nat :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2324 : Index := Scalar.indexCast v2239
  let c256_1804 : Index := 256#32
  ![v2324.toNat, 256]
def k0_off21 (i : grid0.Coords) (k0_t2 : Fin (k0_t2_loop i).trips) : Fin 3 → Nat :=
  let c0_1856 : Index := 0#32
  let c128_1857 : Index := 128#32
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2386 : Index := Scalar.indexCast v2239
  ![0, 128, v2386.toNat]
def k0_off22 (i : grid0.Coords) (k0_t2 : Fin (k0_t2_loop i).trips) : Fin 2 → Nat :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2426 : Index := Scalar.indexCast v2239
  let c384_1888 : Index := 384#32
  ![v2426.toNat, 384]
def k0_off23 (i : grid0.Coords) (k0_t2 : Fin (k0_t2_loop i).trips) : Fin 3 → Nat :=
  let c0_1940 : Index := 0#32
  let c256_1941 : Index := 256#32
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2488 : Index := Scalar.indexCast v2239
  ![0, 256, v2488.toNat]
def k0_off24 (i : grid0.Coords) (k0_t2 : Fin (k0_t2_loop i).trips) : Fin 2 → Nat :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2528 : Index := Scalar.indexCast v2239
  let c512_1972 : Index := 512#32
  ![v2528.toNat, 512]
def k0_off25 (i : grid0.Coords) (k0_t2 : Fin (k0_t2_loop i).trips) : Fin 3 → Nat :=
  let c0_2024 : Index := 0#32
  let c384_2025 : Index := 384#32
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2590 : Index := Scalar.indexCast v2239
  ![0, 384, v2590.toNat]
def k0_off26 (i : grid0.Coords) (k0_t2 : Fin (k0_t2_loop i).trips) : Fin 2 → Nat :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2630 : Index := Scalar.indexCast v2239
  let c640_2056 : Index := 640#32
  ![v2630.toNat, 640]
def k0_off27 (i : grid0.Coords) (k0_t2 : Fin (k0_t2_loop i).trips) : Fin 3 → Nat :=
  let c0_2108 : Index := 0#32
  let c512_2109 : Index := 512#32
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2692 : Index := Scalar.indexCast v2239
  ![0, 512, v2692.toNat]
def k0_off28 (i : grid0.Coords) (k0_t2 : Fin (k0_t2_loop i).trips) : Fin 2 → Nat :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2732 : Index := Scalar.indexCast v2239
  let c768_2140 : Index := 768#32
  ![v2732.toNat, 768]
def k0_off29 (i : grid0.Coords) (k0_t2 : Fin (k0_t2_loop i).trips) : Fin 3 → Nat :=
  let c0_2192 : Index := 0#32
  let c640_2193 : Index := 640#32
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2794 : Index := Scalar.indexCast v2239
  ![0, 640, v2794.toNat]
def k0_off30 (i : grid0.Coords) (k0_t2 : Fin (k0_t2_loop i).trips) : Fin 2 → Nat :=
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2834 : Index := Scalar.indexCast v2239
  let c896_2224 : Index := 896#32
  ![v2834.toNat, 896]
def k0_off31 (i : grid0.Coords) (k0_t2 : Fin (k0_t2_loop i).trips) : Fin 3 → Nat :=
  let c0_2276 : Index := 0#32
  let c768_2277 : Index := 768#32
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2896 : Index := Scalar.indexCast v2239
  ![0, 768, v2896.toNat]
def k0_off32 (i : grid0.Coords) (k0_t2 : Fin (k0_t2_loop i).trips) : Fin 3 → Nat :=
  let c0_2340 : Index := 0#32
  let c896_2341 : Index := 896#32
  let c0_i32_118 : BitVec 32 := 0#32
  let arg2 : BitVec 32 := BitVec.ofNat 32 (i 2).val
  let v157 : BitVec 32 := Scalar.subi arg2 c0_i32_118
  let c1_i32 : BitVec 32 := 1#32
  let v159 : BitVec 32 := Scalar.divsi v157 c1_i32
  let v160 : BitVec 32 := Scalar.muli v159 c1_i32
  let v161 : BitVec 32 := Scalar.addi c0_i32_118 v160
  let c1_i32_120 : BitVec 32 := 1#32
  let arg15 : BitVec 32 := Scf.iv v161 c1_i32_120 k0_t2
  let c512_i32_1731 : BitVec 32 := 512#32
  let v2238 : BitVec 32 := Scalar.muli arg15 c512_i32_1731
  let v2239 : BitVec 32 := v2238
  let v2976 : Index := Scalar.indexCast v2239
  ![0, 896, v2976.toNat]
def k0_mult3 (i : grid0.Coords) : BitVec 32 :=
  let arg2 : BitVec 32 := BitVec.ofNat 32 (i 2).val
  let c512_i32 : BitVec 32 := 512#32
  let v162 : BitVec 32 := Scalar.muli arg2 c512_i32
  v162
def k0_mult4 (i : grid0.Coords) : BitVec 32 :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  v165
def k0_off33 (i : grid0.Coords) : Fin 2 → Nat :=
  let arg2 : BitVec 32 := BitVec.ofNat 32 (i 2).val
  let c512_i32 : BitVec 32 := 512#32
  let v162 : BitVec 32 := Scalar.muli arg2 c512_i32
  let v163 : BitVec 32 := v162
  let v219 : Index := Scalar.indexCast v163
  let c0_136 : Index := 0#32
  ![v219.toNat, 0]
def k0_off34 (i : grid0.Coords) : Fin 2 → Nat :=
  let arg2 : BitVec 32 := BitVec.ofNat 32 (i 2).val
  let c512_i32 : BitVec 32 := 512#32
  let v162 : BitVec 32 := Scalar.muli arg2 c512_i32
  let v163 : BitVec 32 := v162
  let v245 : Index := Scalar.indexCast v163
  let c128_158 : Index := 128#32
  ![v245.toNat, 128]
def k0_off35 (i : grid0.Coords) : Fin 3 → Nat :=
  let c0_180 : Index := 0#32
  let c0_181 : Index := 0#32
  let arg2 : BitVec 32 := BitVec.ofNat 32 (i 2).val
  let c512_i32 : BitVec 32 := 512#32
  let v162 : BitVec 32 := Scalar.muli arg2 c512_i32
  let v163 : BitVec 32 := v162
  let v271 : Index := Scalar.indexCast v163
  ![0, 0, v271.toNat]
def k0_off36 (i : grid0.Coords) : Fin 2 → Nat :=
  let arg2 : BitVec 32 := BitVec.ofNat 32 (i 2).val
  let c512_i32 : BitVec 32 := 512#32
  let v162 : BitVec 32 := Scalar.muli arg2 c512_i32
  let v163 : BitVec 32 := v162
  let v311 : Index := Scalar.indexCast v163
  let c256_212 : Index := 256#32
  ![v311.toNat, 256]
def k0_off37 (i : grid0.Coords) : Fin 3 → Nat :=
  let c0_266 : Index := 0#32
  let c128_267 : Index := 128#32
  let arg2 : BitVec 32 := BitVec.ofNat 32 (i 2).val
  let c512_i32 : BitVec 32 := 512#32
  let v162 : BitVec 32 := Scalar.muli arg2 c512_i32
  let v163 : BitVec 32 := v162
  let v377 : Index := Scalar.indexCast v163
  ![0, 128, v377.toNat]
def k0_off38 (i : grid0.Coords) : Fin 2 → Nat :=
  let arg2 : BitVec 32 := BitVec.ofNat 32 (i 2).val
  let c512_i32 : BitVec 32 := 512#32
  let v162 : BitVec 32 := Scalar.muli arg2 c512_i32
  let v163 : BitVec 32 := v162
  let v417 : Index := Scalar.indexCast v163
  let c384_298 : Index := 384#32
  ![v417.toNat, 384]
def k0_off39 (i : grid0.Coords) : Fin 3 → Nat :=
  let c0_352 : Index := 0#32
  let c256_353 : Index := 256#32
  let arg2 : BitVec 32 := BitVec.ofNat 32 (i 2).val
  let c512_i32 : BitVec 32 := 512#32
  let v162 : BitVec 32 := Scalar.muli arg2 c512_i32
  let v163 : BitVec 32 := v162
  let v483 : Index := Scalar.indexCast v163
  ![0, 256, v483.toNat]
def k0_off40 (i : grid0.Coords) : Fin 2 → Nat :=
  let arg2 : BitVec 32 := BitVec.ofNat 32 (i 2).val
  let c512_i32 : BitVec 32 := 512#32
  let v162 : BitVec 32 := Scalar.muli arg2 c512_i32
  let v163 : BitVec 32 := v162
  let v523 : Index := Scalar.indexCast v163
  let c512_384 : Index := 512#32
  ![v523.toNat, 512]
def k0_off41 (i : grid0.Coords) : Fin 3 → Nat :=
  let c0_438 : Index := 0#32
  let c384_439 : Index := 384#32
  let arg2 : BitVec 32 := BitVec.ofNat 32 (i 2).val
  let c512_i32 : BitVec 32 := 512#32
  let v162 : BitVec 32 := Scalar.muli arg2 c512_i32
  let v163 : BitVec 32 := v162
  let v589 : Index := Scalar.indexCast v163
  ![0, 384, v589.toNat]
def k0_off42 (i : grid0.Coords) : Fin 2 → Nat :=
  let arg2 : BitVec 32 := BitVec.ofNat 32 (i 2).val
  let c512_i32 : BitVec 32 := 512#32
  let v162 : BitVec 32 := Scalar.muli arg2 c512_i32
  let v163 : BitVec 32 := v162
  let v629 : Index := Scalar.indexCast v163
  let c640_470 : Index := 640#32
  ![v629.toNat, 640]
def k0_off43 (i : grid0.Coords) : Fin 3 → Nat :=
  let c0_524 : Index := 0#32
  let c512_525 : Index := 512#32
  let arg2 : BitVec 32 := BitVec.ofNat 32 (i 2).val
  let c512_i32 : BitVec 32 := 512#32
  let v162 : BitVec 32 := Scalar.muli arg2 c512_i32
  let v163 : BitVec 32 := v162
  let v695 : Index := Scalar.indexCast v163
  ![0, 512, v695.toNat]
def k0_off44 (i : grid0.Coords) : Fin 2 → Nat :=
  let arg2 : BitVec 32 := BitVec.ofNat 32 (i 2).val
  let c512_i32 : BitVec 32 := 512#32
  let v162 : BitVec 32 := Scalar.muli arg2 c512_i32
  let v163 : BitVec 32 := v162
  let v735 : Index := Scalar.indexCast v163
  let c768_556 : Index := 768#32
  ![v735.toNat, 768]
def k0_off45 (i : grid0.Coords) : Fin 3 → Nat :=
  let c0_610 : Index := 0#32
  let c640_611 : Index := 640#32
  let arg2 : BitVec 32 := BitVec.ofNat 32 (i 2).val
  let c512_i32 : BitVec 32 := 512#32
  let v162 : BitVec 32 := Scalar.muli arg2 c512_i32
  let v163 : BitVec 32 := v162
  let v801 : Index := Scalar.indexCast v163
  ![0, 640, v801.toNat]
def k0_off46 (i : grid0.Coords) : Fin 2 → Nat :=
  let arg2 : BitVec 32 := BitVec.ofNat 32 (i 2).val
  let c512_i32 : BitVec 32 := 512#32
  let v162 : BitVec 32 := Scalar.muli arg2 c512_i32
  let v163 : BitVec 32 := v162
  let v841 : Index := Scalar.indexCast v163
  let c896_642 : Index := 896#32
  ![v841.toNat, 896]
def k0_off47 (i : grid0.Coords) : Fin 3 → Nat :=
  let c0_696 : Index := 0#32
  let c768_697 : Index := 768#32
  let arg2 : BitVec 32 := BitVec.ofNat 32 (i 2).val
  let c512_i32 : BitVec 32 := 512#32
  let v162 : BitVec 32 := Scalar.muli arg2 c512_i32
  let v163 : BitVec 32 := v162
  let v907 : Index := Scalar.indexCast v163
  ![0, 768, v907.toNat]
def k0_off48 (i : grid0.Coords) : Fin 2 → Nat :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v947 : Index := Scalar.indexCast v166
  let c0_728 : Index := 0#32
  ![v947.toNat, 0]
def k0_off49 (i : grid0.Coords) : Fin 3 → Nat :=
  let c0_782 : Index := 0#32
  let c896_783 : Index := 896#32
  let arg2 : BitVec 32 := BitVec.ofNat 32 (i 2).val
  let c512_i32 : BitVec 32 := 512#32
  let v162 : BitVec 32 := Scalar.muli arg2 c512_i32
  let v163 : BitVec 32 := v162
  let v1013 : Index := Scalar.indexCast v163
  ![0, 896, v1013.toNat]
def k0_off50 (i : grid0.Coords) : Fin 2 → Nat :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1053 : Index := Scalar.indexCast v166
  let c128_814 : Index := 128#32
  ![v1053.toNat, 128]
def k0_off51 (i : grid0.Coords) : Fin 3 → Nat :=
  let c0_868 : Index := 0#32
  let c0_869 : Index := 0#32
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1119 : Index := Scalar.indexCast v166
  ![0, 0, v1119.toNat]
def k0_off52 (i : grid0.Coords) : Fin 2 → Nat :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1159 : Index := Scalar.indexCast v166
  let c256_900 : Index := 256#32
  ![v1159.toNat, 256]
def k0_off53 (i : grid0.Coords) : Fin 3 → Nat :=
  let c0_954 : Index := 0#32
  let c128_955 : Index := 128#32
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1225 : Index := Scalar.indexCast v166
  ![0, 128, v1225.toNat]
def k0_off54 (i : grid0.Coords) : Fin 2 → Nat :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1265 : Index := Scalar.indexCast v166
  let c384_986 : Index := 384#32
  ![v1265.toNat, 384]
def k0_off55 (i : grid0.Coords) : Fin 3 → Nat :=
  let c0_1040 : Index := 0#32
  let c256_1041 : Index := 256#32
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1331 : Index := Scalar.indexCast v166
  ![0, 256, v1331.toNat]
def k0_off56 (i : grid0.Coords) : Fin 2 → Nat :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1371 : Index := Scalar.indexCast v166
  let c512_1072 : Index := 512#32
  ![v1371.toNat, 512]
def k0_off57 (i : grid0.Coords) : Fin 3 → Nat :=
  let c0_1126 : Index := 0#32
  let c384_1127 : Index := 384#32
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1437 : Index := Scalar.indexCast v166
  ![0, 384, v1437.toNat]
def k0_off58 (i : grid0.Coords) : Fin 2 → Nat :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1477 : Index := Scalar.indexCast v166
  let c640_1158 : Index := 640#32
  ![v1477.toNat, 640]
def k0_off59 (i : grid0.Coords) : Fin 3 → Nat :=
  let c0_1212 : Index := 0#32
  let c512_1213 : Index := 512#32
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1543 : Index := Scalar.indexCast v166
  ![0, 512, v1543.toNat]
def k0_off60 (i : grid0.Coords) : Fin 2 → Nat :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1583 : Index := Scalar.indexCast v166
  let c768_1244 : Index := 768#32
  ![v1583.toNat, 768]
def k0_off61 (i : grid0.Coords) : Fin 3 → Nat :=
  let c0_1298 : Index := 0#32
  let c640_1299 : Index := 640#32
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1649 : Index := Scalar.indexCast v166
  ![0, 640, v1649.toNat]
def k0_off62 (i : grid0.Coords) : Fin 2 → Nat :=
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1689 : Index := Scalar.indexCast v166
  let c896_1330 : Index := 896#32
  ![v1689.toNat, 896]
def k0_off63 (i : grid0.Coords) : Fin 3 → Nat :=
  let c0_1384 : Index := 0#32
  let c768_1385 : Index := 768#32
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1755 : Index := Scalar.indexCast v166
  ![0, 768, v1755.toNat]
def k0_off64 (i : grid0.Coords) : Fin 3 → Nat :=
  let c0_1448 : Index := 0#32
  let c896_1449 : Index := 896#32
  let arg2 : BitVec 32 := BitVec.ofNat 32 (i 2).val
  let c512_i32_121 : BitVec 32 := 512#32
  let v164 : BitVec 32 := Scalar.muli arg2 c512_i32_121
  let c256_i32 : BitVec 32 := 256#32
  let v165 : BitVec 32 := Scalar.addi v164 c256_i32
  let v166 : BitVec 32 := v165
  let v1835 : Index := Scalar.indexCast v166
  ![0, 896, v1835.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1x1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | "qscale" => some (((Real.log 256)⁻¹ : ℝ) : EReal)
  | _ => none
-- ==== ReferenceIdeal.lean ====
abbrev S4x8192x8x2x64 : Shape := ⟨5, ![4, 8192, 8, 2, 64]⟩
abbrev S4x8192x8x128 : Shape := ⟨4, ![4, 8192, 8, 128]⟩
abbrev S1x2x64 : Shape := ⟨3, ![1, 2, 64]⟩
abbrev S1x128 : Shape := ⟨2, ![1, 128]⟩
abbrev S1x1x64 : Shape := ⟨3, ![1, 1, 64]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x2x8192x8192 : Shape := ⟨5, ![4, 8, 2, 8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S128 : Shape := ⟨1, ![128]⟩
abbrev S1x1x1x128 : Shape := ⟨4, ![1, 1, 1, 128]⟩
abbrev S32768x1024 : Shape := ⟨2, ![32768, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4x8192x8x2x64, .f32⟩
  | .hbm, ⟨1, _⟩ => ⟨S4x8192x8x2x64, .f32⟩
  | .hbm, ⟨2, _⟩ => ⟨S4x8192x8x128, .f32⟩
  | .hbm, ⟨3, _⟩ => ⟨S1x2x64, .f32⟩
  | .hbm, ⟨4, _⟩ => ⟨S1x2x64, .f32⟩
  | .hbm, ⟨5, _⟩ => ⟨S1x128, .f32⟩
  | .hbm, ⟨6, _⟩ => ⟨S1x1x64, .f32⟩
  | .hbm, ⟨7, _⟩ => ⟨S64, .f32⟩
  | .hbm, ⟨8, _⟩ => ⟨S1x1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1x64, .f32⟩
  | .hbm, ⟨15, _⟩ => ⟨S64, .f32⟩
  | .hbm, ⟨16, _⟩ => ⟨S1x1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S4x8x2x8192x8192, .f32⟩
  | .hbm, ⟨35, _⟩ => ⟨S_, .f32⟩
  | .hbm, ⟨36, _⟩ => ⟨S4x8x2x8192x8192, .f32⟩
  | .hbm, ⟨37, _⟩ => ⟨S4x8x2x8192x8192, .f32⟩
  | .hbm, ⟨38, _⟩ => ⟨S_, .f32⟩
  | .hbm, ⟨39, _⟩ => ⟨S_, .f32⟩
  | .hbm, ⟨40, _⟩ => ⟨S4x8x2x8192x8192, .i1⟩
  | .hbm, ⟨41, _⟩ => ⟨S4x8x2x8192x8192, .f32⟩
  | .hbm, ⟨42, _⟩ => ⟨S4x8x2x8192x8192, .f32⟩
  | .hbm, ⟨43, _⟩ => ⟨S_, .f32⟩
  | .hbm, ⟨44, _⟩ => ⟨S4x8x2x8192, .f32⟩
  | .hbm, ⟨45, _⟩ => ⟨S_, .f32⟩
  | .hbm, ⟨46, _⟩ => ⟨S4x8x2x8192, .f32⟩
  | .hbm, ⟨47, _⟩ => ⟨S4x8x2x8192, .f32⟩
  | .hbm, ⟨48, _⟩ => ⟨S4x8x2x8192x1, .f32⟩
  | .hbm, ⟨49, _⟩ => ⟨S4x8x2x8192x8192, .f32⟩
  | .hbm, ⟨50, _⟩ => ⟨S4x8x2x8192x8192, .f32⟩
  | .hbm, ⟨51, _⟩ => ⟨S4x8x2x8192x8192, .f32⟩
  | .hbm, ⟨52, _⟩ => ⟨S_, .f32⟩
  | .hbm, ⟨53, _⟩ => ⟨S4x8x2x8192, .f32⟩
  | .hbm, ⟨54, _⟩ => ⟨S4x8x2x8192x1, .f32⟩
  | .hbm, ⟨55, _⟩ => ⟨S4x8x2x8192x8192, .f32⟩
  | .hbm, ⟨56, _⟩ => ⟨S4x8x2x8192x8192, .f32⟩
  | .hbm, ⟨57, _⟩ => ⟨S4x8x1x8192x8192, .f32⟩
  | .hbm, ⟨58, _⟩ => ⟨S4x8x8192x8192, .f32⟩
  | .hbm, ⟨59, _⟩ => ⟨S4x8x1x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x128x8192, .f32⟩
  | .hbm, ⟨65, _⟩ => ⟨S4x8192x8x128, .f32⟩
  | .hbm, ⟨66, _⟩ => ⟨S4x8192x8x128, .f32⟩
  | .hbm, ⟨67, _⟩ => ⟨S_, .f32⟩
  | .hbm, ⟨68, _⟩ => ⟨S4x8192x8, .f32⟩
  | .hbm, ⟨69, _⟩ => ⟨S4x8192x8x1, .f32⟩
  | .hbm, ⟨70, _⟩ => ⟨S_, .f32⟩
  | .hbm, ⟨71, _⟩ => ⟨S4x8192x8x1, .f32⟩
  | .hbm, ⟨72, _⟩ => ⟨S4x8192x8x1, .f32⟩
  | .hbm, ⟨73, _⟩ => ⟨S_, .f32⟩
  | .hbm, ⟨74, _⟩ => ⟨S4x8192x8x1, .f32⟩
  | .hbm, ⟨75, _⟩ => ⟨S4x8192x8x1, .f32⟩
  | .hbm, ⟨76, _⟩ => ⟨S4x8192x8x1, .f32⟩
  | .hbm, ⟨77, _⟩ => ⟨S4x8192x8x128, .f32⟩
  | .hbm, ⟨78, _⟩ => ⟨S4x8192x8x128, .f32⟩
  | .hbm, ⟨79, _⟩ => ⟨S128, .f32⟩
  | .hbm, ⟨80, _⟩ => ⟨S1x1x1x128, .f32⟩
  | .hbm, ⟨81, _⟩ => ⟨S4x8192x8x128, .f32⟩
  | .hbm, ⟨82, _⟩ => ⟨S4x8192x8x128, .f32⟩
  | .hbm, ⟨83, _⟩ => ⟨S_, .f32⟩
  | .hbm, ⟨84, _⟩ => ⟨S4x8192x8x128, .f32⟩
  | .hbm, ⟨85, _⟩ => ⟨S4x8192x8x128, .f32⟩
  | .hbm, ⟨86, _⟩ => ⟨S32768x1024, .f32⟩
  | .hbm, ⟨87, _⟩ => ⟨S32768x1024, .bf16⟩
  | _, _ => ⟨S4x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S32768x1024 : Shape := ⟨2, ![32768, 1024]⟩
abbrev S512x1024 : Shape := ⟨2, ![512, 1024]⟩
abbrev S512 : Shape := ⟨1, ![512]⟩
abbrev S512x1 : Shape := ⟨2, ![512, 1]⟩

abbrev nBuf : Space → Nat
  | .hbm => 27
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x4096, .f32⟩
  | .hbm, ⟨17, _⟩ => ⟨S1024x4096, .bf16⟩
  | .hbm, ⟨18, _⟩ => ⟨S4096x1024, .f32⟩
  | .hbm, ⟨19, _⟩ => ⟨S4096x1024, .bf16⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x1024, .bf16⟩
  | .hbm, ⟨24, _⟩ => ⟨S32768x1024, .f32⟩
  | .hbm, ⟨25, _⟩ => ⟨S32768x1024, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x8192x1024 : Shape := ⟨3, ![4, 8192, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4x8192x4096 : Shape := ⟨3, ![4, 8192, 4096]⟩
abbrev S4096x1024 : Shape := ⟨2, ![4096, 1024]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1024, .f32⟩
  | .hbm, ⟨10, _⟩ => ⟨S1024x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S1024x1024, .f32⟩
  | .hbm, ⟨15, _⟩ => ⟨S4x8192x1024, .f32⟩
  | .hbm, ⟨16, _⟩ => ⟨S4x8192x1024, .f32⟩
  | .hbm, ⟨17, _⟩ => ⟨S1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S1024x4096, .f32⟩
  | .hbm, ⟨35, _⟩ => ⟨S4x8192x4096, .f32⟩
  | .hbm, ⟨36, _⟩ => ⟨S_, .f32⟩
  | .hbm, ⟨37, _⟩ => ⟨S4x8192x4096, .f32⟩
  | .hbm, ⟨38, _⟩ => ⟨S4x8192x4096, .f32⟩
  | .hbm, ⟨39, _⟩ => ⟨S4x8192x4096, .f32⟩
  | .hbm, ⟨40, _⟩ => ⟨S4096x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Proof.IdealBody.lean ====
module

public import proofs.«01_k».proof.Proof.Gen.KernelIdeal.Frame.Runs

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! # The loop over the earlier tiles, whatever the score buffer held before

A trip stores every score before it loads it, so the running maximum, normaliser and numerator it
leaves do not depend on what the score buffer held; the invariant here therefore keeps that buffer
at some contents and the three others at what the trips leave over a blank score buffer. -/

section

variable (𝒱 : Variants) (c : Dev nD) (bd : Option 𝒱.V) (i : grid0.Coords) (arg3 : Memref sig .tc .vmem S2x64 .f32) (harg3 : arg3.IsWhole) (arg4 : Memref sig .tc .vmem S2x64 .f32) (harg4 : arg4.IsWhole) (arg5 : Memref sig .tc .vmem S128x1 .f32) (harg5 : arg5.IsWhole) (arg6 : Memref sig .tc .vmem S8192x1024 .bf16) (harg6 : arg6.IsWhole) (arg7 : Memref sig .tc .vmem S1x1024x8192 .bf16) (harg7 : arg7.IsWhole) (arg8 : Memref sig .tc .vmem S1x1024x512 .f32) (harg8 : arg8.IsWhole) (arg9 : Memref sig .tc .vmem S512x1024 .bf16) (harg9 : arg9.IsWhole) (arg10 : Memref sig .tc .vmem S8x2x128x512 .bf16) (harg10 : arg10.IsWhole) (arg11 : Memref sig .tc .vmem S5x512x512 .f32) (harg11 : arg11.IsWhole) (arg12 : Memref sig .tc .vmem S8x2x1x512 .f32) (harg12 : arg12.IsWhole) (arg13 : Memref sig .tc .vmem S8x2x8x512 .f32) (harg13 : arg13.IsWhole) (arg14 : Memref sig .tc .vmem S8x2x128x512 .f32) (harg14 : arg14.IsWhole) (arg2 : BitVec 32) (v149 : FVec F S8x2x8x512 .f32) (X_arg6 : BufTy.Contents (Elt F) arg6.view.ty) (X_arg7 : BufTy.Contents (Elt F) arg7.view.ty) (X_arg10 : BufTy.Contents (Elt F) arg10.view.ty)

/-- What a trip leaves in the three running buffers does not depend on the score buffer's prior contents. -/
theorem trip_indep (k : Fin (k0_t1_loop i).trips) (f11 f11' : BufTy.Contents (Elt F) arg11.view.ty)
    (f12 : BufTy.Contents (Elt F) arg12.view.ty) (f13 : BufTy.Contents (Elt F) arg13.view.ty) (f14 : BufTy.Contents (Elt F) arg14.view.ty) :
    (tripL_k0_t1 (F := F) 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 k f11 f12 f13 f14).2
      = (tripL_k0_t1 (F := F) 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 k f11' f12 f13 f14).2 := by
  unfold tripL_k0_t1 trip_k0_t1
  rfl

/-- Before trip `k`: the keys, values and queries as read, the score buffer at some contents, and the
running maximum, normaliser and numerator at what the trips before `k` wrote. -/
abbrev invTiles (G_arg12 : BufTy.Contents (Elt F) arg12.view.ty) (G_arg13 : BufTy.Contents (Elt F) arg13.view.ty) (G_arg14 : BufTy.Contents (Elt F) arg14.view.ty) (k : ℕ) (_u : PUnit) : sProp 𝕄 :=
  iprop((arg6.view.loc (c : Thread nD τ) ↦[arg6.view.set]{fullShare} X_arg6) ∗ (arg7.view.loc (c : Thread nD τ) ↦[arg7.view.set]{fullShare} X_arg7) ∗ (arg10.view.loc (c : Thread nD τ) ↦[arg10.view.set]{fullShare} X_arg10) ∗ (∃ f, (arg11.view.loc (c : Thread nD τ) ↦[arg11.view.set]{fullShare} f)) ∗ (∃ f, (arg12.view.loc (c : Thread nD τ) ↦[arg12.view.set]{fullShare} f) ∗ ⌜f = arg12.view.writes (Elt F) G_arg12 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 arg11.view.junk G_arg12 G_arg13 G_arg14 k).2.1⌝) ∗ (∃ f, (arg13.view.loc (c : Thread nD τ) ↦[arg13.view.set]{fullShare} f) ∗ ⌜f = arg13.view.writes (Elt F) G_arg13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 arg11.view.junk G_arg12 G_arg13 G_arg14 k).2.2.1⌝) ∗ (∃ f, (arg14.view.loc (c : Thread nD τ) ↦[arg14.view.set]{fullShare} f) ∗ ⌜f = arg14.view.writes (Elt F) G_arg14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 arg11.view.junk G_arg12 G_arg13 G_arg14 k).2.2.2⌝))

set_option warn.classDefReducibility false in
/-- The loop over the earlier tiles by that invariant. -/
@[sl_loop] def loopTiles (E : Set ℕ) (G_arg12 : BufTy.Contents (Elt F) arg12.view.ty) (G_arg13 : BufTy.Contents (Elt F) arg13.view.ty) (G_arg14 : BufTy.Contents (Elt F) arg14.view.ty) :
    LoopInv (M := 𝕄) Idealize.ShloMosaic.frame (wpE (defs₀ (F := F)) 𝒱 (c : Thread nD τ) bd) E
      (k0_t1_loop i).lb (k0_t1_loop i).ub (k0_t1_loop i).st (k0_t1_ok i) () (k0_t1_body (F := F) i arg3 harg3 arg4 harg4 arg5 harg5 arg6 harg6 arg7 harg7 arg8 harg8 arg9 harg9 arg10 harg10 arg11 harg11 arg12 harg12 arg13 harg13 arg14 harg14 arg2 v149) where
  inv := invTiles 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 G_arg12 G_arg13 G_arg14
  step k acc := by
    iintro ⟨H6, H7, H10, ⟨%f11, H11⟩, ⟨%f12, H12, %h12⟩, ⟨%f13, H13, %h13⟩, ⟨%f14, H14, %h14⟩⟩
    iapply (wp_wand_r Idealize.ShloMosaic.frame (wpE (defs₀ (F := F)) 𝒱 (c : Thread nD τ) bd) E)
    isplitl [H6 H7 H10 H11 H12 H13 H14]
    · iapply ((trip_k0_t1 (F := F) 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 k).2.2.2.2 E f11 f12 f13 f14)
      isplitl [H6]; · iexact H6
      isplitl [H7]; · iexact H7
      isplitl [H10]; · iexact H10
      isplitl [H11]; · iexact H11
      isplitl [H12]; · iexact H12
      isplitl [H13]; · iexact H13
      iexact H14
    · iintro %_ ⟨H6, H7, H10, H11, H12, H13, H14⟩
      have hi := trip_indep 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 k f11
        (arg11.view.writes (Elt F) arg11.view.junk (pb_k0_t1 (F := F) 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 arg11.view.junk G_arg12 G_arg13 G_arg14 k.val).1) f12 f13 f14
      rw [Prod.ext_iff, Prod.ext_iff] at hi
      isplitl [H6]; · iexact H6
      isplitl [H7]; · iexact H7
      isplitl [H10]; · iexact H10
      isplitl [H11]; · iexists _; iexact H11
      rw [pb_k0_t1_succ]
      isplitl [H12]
      · iexists _; isplitl [H12]; · iexact H12
        ipureintro
        rw [View.writes_append, ← h12, ← h13, ← h14]
        exact congrArg _ hi.1
      isplitl [H13]
      · iexists _; isplitl [H13]; · iexact H13
        ipureintro
        rw [View.writes_append, ← h12, ← h13, ← h14]
        exact congrArg _ hi.2.1
      iexists _; isplitl [H14]; · iexact H14
      ipureintro
      rw [View.writes_append, ← h12, ← h13, ← h14]
      exact congrArg _ hi.2.2

/-- The second loop has no trips: the first one's bound is the number of tiles before this one. -/
theorem rest_trips (i : grid0.Coords) : (k0_t2_loop i).trips = 0 := by
  have h : ∀ x : Fin 16, Scf.Loop.trips (⟨Scalar.addi 0#32 (Scalar.muli (Scalar.divsi
      (Scalar.subi (BitVec.ofNat 32 x.val) 0#32) 1#32) 1#32), Scalar.addi 0#32 (Scalar.subi (BitVec.ofNat 32 x.val) 0#32), 1#32⟩ : Scf.Loop 32) = 0 := by decide
  exact h (i 2)

set_option warn.classDefReducibility false in
/-- So it leaves every buffer as it finds it. -/
@[sl_loop] def loopRest (E : Set ℕ) (v161 : BitVec 32) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) :
    LoopInv (M := 𝕄) Idealize.ShloMosaic.frame (wpE (defs₀ (F := F)) 𝒱 (c : Thread nD τ) bd) E
      (k0_t2_loop i).lb (k0_t2_loop i).ub (k0_t2_loop i).st (k0_t2_ok i) () (k0_t2_body (F := F) i arg3 harg3 arg4 harg4 arg5 harg5 arg6 harg6 arg7 harg7 arg8 harg8 arg9 harg9 arg10 harg10 arg11 harg11 arg12 harg12 arg13 harg13 arg14 harg14 arg2 v149 v161) where
  inv _ _ := iprop((arg11.view.loc (c : Thread nD τ) ↦[arg11.view.set]{fullShare} G_arg11) ∗ (arg12.view.loc (c : Thread nD τ) ↦[arg12.view.set]{fullShare} G_arg12) ∗ (arg13.view.loc (c : Thread nD τ) ↦[arg13.view.set]{fullShare} G_arg13) ∗ (arg14.view.loc (c : Thread nD τ) ↦[arg14.view.set]{fullShare} G_arg14))
  step k acc := absurd (lt_of_lt_of_eq k.isLt (rest_trips i)) (Nat.not_lt_zero _)

end

set_option maxHeartbeats 4408000 in
/-- The body from whole staging buffers: the inputs' at their blocks, the output's and the scratch ones at anything.
It runs to the continuation, which gets the inputs' back, the scratch ones at some contents, and the output's with
the pieces that the run stores, which are the witness. -/
noncomputable def attnRun (c : Dev nD) (i : grid0.Coords) (arg3 : Memref sig .tc .vmem S2x64 .f32) (harg3 : arg3.IsWhole) (arg4 : Memref sig .tc .vmem S2x64 .f32) (harg4 : arg4.IsWhole) (arg5 : Memref sig .tc .vmem S128x1 .f32) (harg5 : arg5.IsWhole) (arg6 : Memref sig .tc .vmem S8192x1024 .bf16) (harg6 : arg6.IsWhole) (arg7 : Memref sig .tc .vmem S1x1024x8192 .bf16) (harg7 : arg7.IsWhole) (arg8 : Memref sig .tc .vmem S1x1024x512 .f32) (harg8 : arg8.IsWhole) (arg9 : Memref sig .tc .vmem S512x1024 .bf16) (harg9 : arg9.IsWhole) (arg10 : Memref sig .tc .vmem S8x2x128x512 .bf16) (harg10 : arg10.IsWhole) (arg11 : Memref sig .tc .vmem S5x512x512 .f32) (harg11 : arg11.IsWhole) (arg12 : Memref sig .tc .vmem S8x2x1x512 .f32) (harg12 : arg12.IsWhole) (arg13 : Memref sig .tc .vmem S8x2x8x512 .f32) (harg13 : arg13.IsWhole) (arg14 : Memref sig .tc .vmem S8x2x128x512 .f32) (harg14 : arg14.IsWhole)
    (x0 : Vec F S2x64 .f32) (x1 : Vec F S2x64 .f32) (x2 : Vec F S128x1 .f32) (x3 : Vec F S8192x1024 .bf16) (x4 : Vec F S1x1024x8192 .bf16) (x5 : Vec F S1x1024x512 .f32) :
    { L6 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_prompt i arg3 harg3 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_attn_prompt_eq_skeleton]; unfold cc0_attn_prompt_skel
    simp only [k0_part122_eq_skeleton]; unfold k0_part122_skel
    simp only [k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Attn

end
-- ==== Proof.IdealFrame.lean ====
module

public import proofs.«01_k».proof.Proof.IdealBody
public import Idealize.ShloMosaic.Lib.Pipeline.Value
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The launch, from the body's run -/

/-- The run's pieces at grid point `t`, on the point's staging buffers and blocks. -/
abbrev piecesAt (c : Dev nD) (t : Fin cfg0.N) : List (View.Piece (Elt F) S512x1024 .bf16) :=
  (attnRun c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) scM0_1 (Memref.isWhole_whole _) scM0_2 (Memref.isWhole_whole _)
    scM0_3 (Memref.isWhole_whole _) scM0_4 (Memref.isWhole_whole _)
    (iblk m c 0 t) (iblk m c 1 t) (iblk m c 2 t) (iblk m c 3 t) (iblk m c 4 t) (iblk m c 5 t)).1

/-- The eight heads' stores cover the output's block. -/
theorem pieces_cover (c : Dev nD) (t : Fin cfg0.N) (y : S512x1024.Idx) : ∃ pc ∈ piecesAt m c t, y ∈ pc.1.set :=
  View.cover_of_tiledL (piecesAt m c t) S512x128.size (by sl_kernel_rfl) y

/-- The output's block after the body at point `t`. -/
def blockAt (c : Dev nD) (t : Fin cfg0.N) : Vec F S512x1024 .bf16 :=
  VO0_6.read (Elt F) (VO0_6.writes (Elt F) VO0_6.junk (piecesAt m c t))

/-- The pipeline's proof data: each array as the region finds it, each input's buffer at its block, the output's at `blockAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blockAt m c t := by dsimp only [dats]

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d
theorem before_4 (c : Dev nD) (t : Fin cfg0.N) (d) : (dats m 0 c).before 4 t d = iblk m c 4 t :=
  before0_4_of m (dats m 0 c) (dats_A m c 4) (after_4 m c) t d
theorem before_5 (c : Dev nD) (t : Fin cfg0.N) (d) : (dats m 0 c).before 5 t d = iblk m c 5 t :=
  before0_5_of m (dats m 0 c) (dats_A m c 5) (after_5 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1200000 in
/-- The body at any point takes the one to the other. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA0_eq]
  unfold blockAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((attnRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, H6⟩, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (pieces_cover m c t)

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The launch: the arrays end as the proof data says, every counter at zero. -/
theorem launch : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hΦ := fun _ _ => rfl)

theorem launch_post : θ_run defs (onTc (τ := τ) (main (F := F))) (s₀ m ρ) (Pipeline.FramePost cfgs (dats m) 0 (V m)) :=
  (θ_run defs _ _).mono (fun _ h => h.1) (launch m ρ)

/-- The frame: every argument ends as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (dats_A m) (launch_post m ρ)) ((θ_run defs _ _).mono (fun _ h => h.2) (launch m ρ))

/-! # The output array, block by block -/

theorem flushed_eq (c : Dev nD) (t : Fin cfg0.N) :
    (dats m 0 c).flushed 6 t = (cfg0.win 6).cut (grid0.coords t) (blockAt m c t) := by
  show (cfg0.win 6).cut (grid0.coords t) ((dats m 0 c).after 6 t) = _
  rw [after_6]

theorem index_inj : ∀ t t' : Fin cfg0.N, win0_6.index t = win0_6.index t' → t = t' :=
  (by decide +kernel : ∀ t t' : Fin grid0.N, win0_6.index t = win0_6.index t' → t = t')

theorem blocks_disjoint : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (index_inj t t' h)

/-- After the launch the result array is what the proof data computes, and the arguments are as launched. -/
theorem launch_blocks : θ_run defs (onTc (τ := τ) (main (F := F))) ⟨m, fun _ => 0, ρ⟩ fun r => ∀ c : Dev nD,
      r.2.mem ((c : Thread nD τ).loc main_v11) = (dats m 0 c).arrAt 6 cfg0.N :=
  (θ_run defs _ _).mono (fun r h c => (h c).1 6) (launch_post m ρ)

end Cert.KernelIdeal.Attn

end
-- ==== Proof.Sides.lean ====
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

/-! # The reference's run, and the named constants -/

/-- The reference ends with its arguments as launched, and has no counters. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run Cert.ReferenceIdeal.defs _ _).mono
    (fun r h => ⟨fun c => (h c).2, sem_eq_zero_of_no_sems (by decide) r.2⟩) (Cert.ReferenceIdeal.Value.run m g)

/-- The two named constants: the queries' factor and the masked score. -/
theorem preserves : Cert.preserves_Kernel_KernelIdeal :=
  ⟨IdealRules.named_const.statement Cert.KernelIdeal.κ "qscale" .f32 0x3E38AA3B#32 (((Real.log 256)⁻¹ : ℝ) : EReal) rfl,
    IdealRules.named_const.statement Cert.KernelIdeal.κ "mask" .f32 0xFF333332#32 ⊥ rfl⟩

end Cert.Proof

end
-- ==== Proof.Blocks.lean ====
module

public import proofs.«01_k».proof.Proof.IdealFrame
public import Idealize.ShloMosaic.Lib.Pipeline.ValueKit.Point
public import Idealize.ShloMosaic.Lib.Pointwise

@[expose] public section

set_option maxRecDepth 16384
set_option maxHeartbeats 400000

noncomputable section

namespace Cert.KernelIdeal.Attn

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-! # The input blocks of a grid point, from the arguments -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![(grid0.coords t 0).val, 0, 0] := (by decide +kernel : ∀ t : Fin grid0.N, _)
theorem index5 : ∀ t : Fin cfg0.N, win0_5.index t = ![(grid0.coords t 0).val, 0, (grid0.coords t 2).val] :=
  (by decide +kernel : ∀ t : Fin grid0.N, _)
theorem index6 : ∀ t : Fin cfg0.N, win0_6.index t = ![16 * (grid0.coords t 0).val + (grid0.coords t 2).val, 0] :=
  (by decide +kernel : ∀ t : Fin grid0.N, _)

/-- The batch a grid point works on. -/
abbrev batch (t : Fin cfg0.N) : Fin 4 := grid0.coords t 0

/-- The tile of queries a grid point works on. -/
abbrev qtile (t : Fin cfg0.N) : Fin 16 := grid0.coords t 2

theorem key_block (c : Dev nD) (t : Fin cfg0.N) (g : Fin 8) (k : Fin 8192) (p : Fin 2) (d : Fin 64) :
    (iblk m c 3 t : FVec Ideal S8192x1024 .bf16) (ix2 k ⟨128 * g.val + (64 * p.val + d.val), by omega⟩)
      = m ((c : Thread nD τ).loc main_arg1) (ix5 (batch t) k g p d) := by
  blk_ext! [iblk, V, index3 t]
  show ((grid0.coords t 0).val * 8192 + k.val) / 8192 = (grid0.coords t 0).val
  omega

theorem value_block (c : Dev nD) (t : Fin cfg0.N) (g : Fin 8) (e : Fin 128) (k : Fin 8192) :
    (iblk m c 4 t : FVec Ideal S1x1024x8192 .bf16) (ix3 0 ⟨128 * g.val + e.val, by omega⟩ k)
      = m ((c : Thread nD τ).loc main_arg2) (ix4 (batch t) k g e) := by
  blk_ext! [iblk, V, index4 t]
  rfl

theorem query_block (c : Dev nD) (t : Fin cfg0.N) (g : Fin 8) (q : Fin 512) (p : Fin 2) (d : Fin 64) :
    (iblk m c 5 t : FVec Ideal S1x1024x512 .f32) (ix3 0 ⟨128 * g.val + (64 * p.val + d.val), by omega⟩ q)
      = m ((c : Thread nD τ).loc main_arg0) (ix5 (batch t) ⟨512 * (qtile t).val + q.val, by have := (qtile t).isLt; omega⟩ g p d) := by
  blk_ext! [iblk, V, index5 t]
  · rfl
  · show (grid0.coords t 2).val * 512 + q.val = 512 * (grid0.coords t 2).val + q.val
    omega

theorem gain_block (c : Dev nD) (t : Fin cfg0.N) (e : Fin 128) :
    (iblk m c 2 t : FVec Ideal S128x1 .f32) (ix2 e 0) = m ((c : Thread nD τ).loc main_arg5) (ix2 0 e) := by
  blk_ext! [iblk, V, index2 t]

theorem lq_block (c : Dev nD) (t : Fin cfg0.N) (r : Fin 2) (j : Fin 64) :
    (iblk m c 0 t : FVec Ideal S2x64 .f32) (ix2 r j) = m ((c : Thread nD τ).loc main_arg3) (ix3 0 r j) := by
  blk_ext! [iblk, V, index0 t]

theorem lk_block (c : Dev nD) (t : Fin cfg0.N) (r : Fin 2) (j : Fin 64) :
    (iblk m c 1 t : FVec Ideal S2x64 .f32) (ix2 r j) = m ((c : Thread nD τ).loc main_arg4) (ix3 0 r j) := by
  blk_ext! [iblk, V, index1 t]

/-- An array that agrees with every grid point's block is the result. -/
theorem result_of_blocks (c : Dev nD) (G : S32768x1024.Idx → EReal)
    (h : ∀ (t : Fin cfg0.N) (q : Fin 512) (e : Fin 1024), blockAt m c t (ix2 q e)
      = G (ix2 ⟨8192 * (batch t).val + (512 * (qtile t).val + q.val), by
          have := (batch t).isLt; have := (qtile t).isLt; omega⟩ e)) :
    (dats m 0 c).arrAt 6 cfg0.N = G := by
  refine (dats m 0 c).arrAt_eq_of_covers 6 _ (by decide +kernel) fun t hf y => ?_
  blk_simp
  rw [after_6]
  obtain ⟨q, e, rfl⟩ : ∃ (q : Fin 512) (e : Fin 1024), y = ix2 q e := ⟨y 0, y 1, eq_ix2 y⟩
  refine (h t q e).trans (congrArg G ?_)
  blk_ext [index6 t]
  show 8192 * (grid0.coords t 0).val + (512 * (grid0.coords t 2).val + q.val) = (16 * (grid0.coords t 0).val + (grid0.coords t 2).val) * 512 + q.val
  omega

end Cert.KernelIdeal.Attn
-- ==== Proof.Online.lean ====
module

public import Idealize.ShloMosaic.PureOps.Ideal

@[expose] public section

/-! # The running maximum and the running sums of a softmax taken tile by tile -/

noncomputable section

open Idealize.ShloMosaic
namespace AttnMath

/-- The weight of a score `s` against a maximum `m`. -/
def E (s m : EReal) : EReal := Ideal.exp2 (s - m)

theorem exp2_nonneg (x : EReal) : 0 ≤ Ideal.exp2 x := by
  induction x with
  | bot => exact le_rfl
  | top => exact le_top
  | coe r => exact EReal.coe_nonneg.mpr (Real.rpow_nonneg (by norm_num) r)

theorem E_nonneg (s m : EReal) : 0 ≤ E s m := exp2_nonneg _

theorem E_bot (m : EReal) : E ⊥ m = 0 := by
  unfold E
  rw [EReal.bot_sub]
  rfl

theorem E_coe (s m : ℝ) : E (s : EReal) (m : EReal) = ((2 : ℝ) ^ (s - m) : ℝ) := by
  unfold E
  rw [← EReal.coe_sub]
  rfl

theorem E_ne_top {s m : EReal} (h : s ≤ m) : E s m ≠ ⊤ := by
  induction s with
  | bot => rw [E_bot]; exact EReal.zero_ne_top
  | top =>
    obtain rfl := top_le_iff.mp h
    exact EReal.zero_ne_top
  | coe s =>
    induction m with
    | bot => simp at h
    | top => exact EReal.zero_ne_top
    | coe m => rw [E_coe]; exact EReal.coe_ne_top _

/-- Moving a weight from a maximum to a larger one. -/
theorem E_mul {s m m' : EReal} (h : s ≤ m) (h' : m ≤ m') : E m m' * E s m = E s m' := by
  induction s with
  | bot => rw [E_bot, E_bot, mul_zero]
  | top =>
    obtain rfl := top_le_iff.mp h
    obtain rfl := top_le_iff.mp h'
    have : E ⊤ ⊤ = 0 := rfl
    rw [this, mul_zero]
  | coe s =>
    induction m with
    | bot => simp at h
    | top =>
      obtain rfl := top_le_iff.mp h'
      have h1 : E ⊤ ⊤ = 0 := rfl
      have h2 : E (s : EReal) ⊤ = 0 := rfl
      rw [h1, h2, mul_zero]
    | coe m =>
      induction m' with
      | bot => simp at h'
      | top =>
        have h1 : E (m : EReal) ⊤ = 0 := rfl
        have h2 : E (s : EReal) ⊤ = 0 := rfl
        rw [h1, h2, zero_mul]
      | coe m' =>
        rw [E_coe, E_coe, E_coe, ← EReal.coe_mul, ← Real.rpow_add (by norm_num)]
        congr 2
        ring

/-- A finite nonnegative factor goes into a sum. -/
theorem mul_sum {ι : Type*} (a : EReal) (h0 : 0 ≤ a) (h1 : a ≠ ⊤) (T : Finset ι) (f : ι → EReal) :
    a * ∑ k ∈ T, f k = ∑ k ∈ T, a * f k := by
  classical
  induction T using Finset.induction_on with
  | empty => simp
  | insert x T hx ih =>
    rw [Finset.sum_insert hx, Finset.sum_insert hx, EReal.left_distrib_of_nonneg_of_ne_top h0 h1, ih]

/-- One step of a running sum: the sum so far moved to the new maximum, and a new tile's terms. -/
theorem online_step {ι : Type*} [DecidableEq ι] (s v : ι → EReal) (T U S : Finset ι) (hd : Disjoint T U) (hS : T ⊆ S)
    (m' : EReal) (hm : S.sup s ≤ m') :
    E (S.sup s) m' * ∑ k ∈ T, E (s k) (S.sup s) * v k + ∑ k ∈ U, E (s k) m' * v k
      = ∑ k ∈ T ∪ U, E (s k) m' * v k := by
  rw [Finset.sum_union hd, mul_sum _ (E_nonneg _ _) (E_ne_top hm)]
  congr 1
  refine Finset.sum_congr rfl fun k hk => ?_
  rw [← mul_assoc, E_mul (Finset.le_sup (f := s) (hS hk)) hm]

/-! ## Over the keys below `n` of `N` -/

/-- The keys below `n`. -/
def below (N n : ℕ) : Finset (Fin N) := Finset.univ.filter fun k => k.val < n

/-- The keys below `n` whose number is `r` modulo 8. -/
def belowMod (N n r : ℕ) : Finset (Fin N) := Finset.univ.filter fun k => k.val < n ∧ k.val % 8 = r

/-- The running maximum of the scores of the keys below `n`. -/
def runM {N : ℕ} (s : Fin N → EReal) (n : ℕ) : EReal := (below N n).sup s

/-- The running sum of the weights over one sublane. -/
def runL {N : ℕ} (s : Fin N → EReal) (n r : ℕ) : EReal := ∑ k ∈ belowMod N n r, E (s k) (runM s n)

/-- The running sum of the weighted values. -/
def runA {N : ℕ} (s v : Fin N → EReal) (n : ℕ) : EReal := ∑ k ∈ below N n, E (s k) (runM s n) * v k

theorem runM_zero {N : ℕ} (s : Fin N → EReal) : runM s 0 = ⊥ := by
  simp [runM, below]

theorem runL_zero {N : ℕ} (s : Fin N → EReal) (r : ℕ) : runL s 0 r = 0 := by
  simp [runL, belowMod]

theorem runA_zero {N : ℕ} (s v : Fin N → EReal) : runA s v 0 = 0 := by
  simp [runA, below]

theorem tile_inj {N n W : ℕ} (h : n + W ≤ N) :
    Function.Injective (fun k : Fin W => (⟨n + k.val, by omega⟩ : Fin N)) := by
  intro a b hab
  have : n + a.val = n + b.val := congrArg Fin.val hab
  exact Fin.ext (by omega)

/-- A tile of `W` keys from `n` on, as an injection. -/
def tile {N n W : ℕ} (h : n + W ≤ N) : Fin W ↪ Fin N := ⟨fun k => ⟨n + k.val, by omega⟩, tile_inj h⟩

theorem lane_inj {N n W : ℕ} (h : n + 8 * W ≤ N) (r : Fin 8) :
    Function.Injective (fun b : Fin W => (⟨n + (b.val * 8 + r.val), by omega⟩ : Fin N)) := by
  intro a b hab
  have : n + (a.val * 8 + r.val) = n + (b.val * 8 + r.val) := congrArg Fin.val hab
  exact Fin.ext (by omega)

theorem below_add {N n W : ℕ} (h : n + W ≤ N) : below N (n + W) = below N n ∪ Finset.univ.map (tile h) := by
  ext k
  simp only [below, Finset.mem_union, Finset.mem_filter, Finset.mem_univ, true_and, Finset.mem_map, tile,
    Function.Embedding.coeFn_mk]
  constructor
  · intro hk
    by_cases hn : k.val < n
    · exact .inl hn
    · exact .inr ⟨⟨k.val - n, by omega⟩, Fin.ext (by simp; omega)⟩
  · rintro (hk | ⟨j, rfl⟩)
    · omega
    · simp

theorem below_disj {N n W : ℕ} (h : n + W ≤ N) : Disjoint (below N n) (Finset.univ.map (tile h)) := by
  rw [Finset.disjoint_left]
  intro k hk hk'
  simp only [below, Finset.mem_filter, Finset.mem_univ, true_and, Finset.mem_map, tile,
    Function.Embedding.coeFn_mk] at hk hk'
  obtain ⟨j, rfl⟩ := hk'
  simp at hk

theorem runM_add {N n W : ℕ} (h : n + W ≤ N) (s : Fin N → EReal) (t : Fin W → EReal)
    (ht : ∀ k : Fin W, t k = s ⟨n + k.val, by omega⟩) :
    runM s (n + W) = max (runM s n) (Finset.univ.sup t) := by
  unfold runM
  rw [below_add h, Finset.sup_union, Finset.sup_map]
  have : s ∘ (tile h) = t := funext fun k => (ht k).symm
  rw [this]

theorem runM_le {N n W : ℕ} (s : Fin N → EReal) : runM s n ≤ runM s (n + W) :=
  Finset.sup_mono fun k hk => by
    simp only [below, Finset.mem_filter, Finset.mem_univ, true_and] at hk ⊢
    omega

theorem runA_add {N n W : ℕ} (h : n + W ≤ N) (s v : Fin N → EReal) (t u : Fin W → EReal)
    (ht : ∀ k : Fin W, t k = s ⟨n + k.val, by omega⟩) (hu : ∀ k : Fin W, u k = v ⟨n + k.val, by omega⟩) :
    E (runM s n) (runM s (n + W)) * runA s v n + ∑ k, u k * E (t k) (runM s (n + W)) = runA s v (n + W) := by
  unfold runA
  rw [below_add h, ← online_step s v _ _ (below N n) (below_disj h) (le_refl _) _ (runM_le s), Finset.sum_map]
  congr 1
  refine Finset.sum_congr rfl fun k _ => ?_
  rw [ht, hu, mul_comm]
  rfl

theorem runL_add {N n W : ℕ} (h : n + 8 * W ≤ N) (h8 : n % 8 = 0) (r : Fin 8) (s : Fin N → EReal) (t : Fin W → EReal)
    (ht : ∀ b : Fin W, t b = s ⟨n + (b.val * 8 + r.val), by omega⟩) :
    E (runM s n) (runM s (n + 8 * W)) * runL s n r + ∑ b, E (t b) (runM s (n + 8 * W)) = runL s (n + 8 * W) r := by
  let g : Fin W ↪ Fin N := ⟨fun b => ⟨n + (b.val * 8 + r.val), by omega⟩, lane_inj h r⟩
  have hU : belowMod N (n + 8 * W) r = belowMod N n r ∪ Finset.univ.map g := by
    ext k
    simp only [belowMod, Finset.mem_union, Finset.mem_filter, Finset.mem_univ, true_and, Finset.mem_map, g,
      Function.Embedding.coeFn_mk]
    constructor
    · rintro ⟨hk, hr⟩
      by_cases hn : k.val < n
      · exact .inl ⟨hn, hr⟩
      · exact .inr ⟨⟨(k.val - n) / 8, by omega⟩, Fin.ext (by simp; omega)⟩
    · rintro (⟨hk, hr⟩ | ⟨j, rfl⟩)
      · exact ⟨by omega, hr⟩
      · have := j.isLt
        have := r.isLt
        exact ⟨by simp; omega, by simp; omega⟩
  have hd : Disjoint (belowMod N n r) (Finset.univ.map g) := by
    rw [Finset.disjoint_left]
    intro k hk hk'
    simp only [belowMod, Finset.mem_filter, Finset.mem_univ, true_and, Finset.mem_map, g,
      Function.Embedding.coeFn_mk] at hk hk'
    obtain ⟨j, rfl⟩ := hk'
    simp at hk
  have hS : belowMod N n r ⊆ below N n := fun k hk => by
    simp only [belowMod, below, Finset.mem_filter, Finset.mem_univ, true_and] at hk ⊢
    exact hk.1
  have key := online_step s (fun _ => 1) _ _ (below N n) hd hS _ (runM_le (n := n) (W := 8 * W) s)
  simp only [mul_one] at key
  unfold runL
  rw [hU]
  refine Eq.trans ?_ key
  rw [Finset.sum_map]
  congr 1
  refine Finset.sum_congr rfl fun k _ => ?_
  rw [ht]
  rfl

/-- Keys with score `⊥` add nothing: from `n` on all of them are such, so the sums are over all keys. -/
theorem runM_all {N n : ℕ} (s : Fin N → EReal) (h : ∀ k : Fin N, n ≤ k.val → s k = ⊥) :
    runM s n = Finset.univ.sup s := by
  refine le_antisymm (Finset.sup_mono (Finset.subset_univ _)) (Finset.sup_le fun k _ => ?_)
  by_cases hk : k.val < n
  · exact Finset.le_sup (f := s) (by simp [below, hk])
  · rw [h k (by omega)]
    exact bot_le

theorem runA_all {N n : ℕ} (s v : Fin N → EReal) (h : ∀ k : Fin N, n ≤ k.val → s k = ⊥) :
    runA s v n = ∑ k, E (s k) (Finset.univ.sup s) * v k := by
  unfold runA
  rw [runM_all s h]
  refine Finset.sum_subset (Finset.subset_univ _) fun k _ hk => ?_
  rw [h k (by simpa [below] using hk), E_bot, zero_mul]

theorem runL_all {N n : ℕ} (s : Fin N → EReal) (h : ∀ k : Fin N, n ≤ k.val → s k = ⊥) :
    ∑ r : Fin 8, runL s n r = ∑ k, E (s k) (Finset.univ.sup s) := by
  unfold runL
  rw [runM_all s h]
  have : ∀ r : Fin 8, ∑ k ∈ belowMod N n r, E (s k) (Finset.univ.sup s)
      = ∑ k ∈ Finset.univ.filter (fun k : Fin N => (⟨k.val % 8, by omega⟩ : Fin 8) = r), E (s k) (Finset.univ.sup s) := by
    intro r
    refine Finset.sum_subset (fun k hk => ?_) fun k hk hk' => ?_
    · simp only [belowMod, Finset.mem_filter, Finset.mem_univ, true_and] at hk ⊢
      exact Fin.ext hk.2
    · simp only [belowMod, Finset.mem_filter, Finset.mem_univ, true_and, not_and] at hk hk'
      have hr : k.val % 8 = r.val := congrArg Fin.val hk
      rw [h k (by by_contra hc; exact hk' (by omega) hr), E_bot]
  simp only [this]
  exact Finset.sum_fiberwise _ _ _

/-! ## The exponentials of base 2 and e -/

theorem exp2_scaled (c : ℝ) (hc : c * Real.log 2 = 1) (x : EReal) : Ideal.exp2 (x * (c : EReal)) = Ideal.exp x := by
  have hpos : 0 < c := by
    by_contra hn
    have := Real.log_pos (by norm_num : (1 : ℝ) < 2)
    nlinarith
  induction x with
  | bot => rw [EReal.bot_mul_coe_of_pos hpos]; rfl
  | top => rw [EReal.top_mul_coe_of_pos hpos]; rfl
  | coe r =>
    rw [← EReal.coe_mul]
    show (((2 : ℝ) ^ (r * c) : ℝ) : EReal) = ((Real.exp r : ℝ) : EReal)
    rw [Real.rpow_def_of_pos (by norm_num)]
    congr 2
    calc Real.log 2 * (r * c) = r * (c * Real.log 2) := by ring
      _ = r := by rw [hc, mul_one]

/-! ## The difference of two normalised sums -/

theorem coe_sum {ι : Type*} (T : Finset ι) (f : ι → ℝ) : ((∑ k ∈ T, f k : ℝ) : EReal) = ∑ k ∈ T, (f k : EReal) := by
  classical
  induction T using Finset.induction_on with
  | empty => simp
  | insert x T hx ih => rw [Finset.sum_insert hx, Finset.sum_insert hx, EReal.coe_add, ih]

theorem diff_eq {ι : Type*} [Fintype ι] (w1 w2 v : ι → ℝ) (lam : ℝ) (h1 : ∑ k, w1 k ≠ 0) (h2 : ∑ k, w2 k ≠ 0) :
    Ideal.div (∑ k, (w1 k : EReal) * (v k : EReal)) (∑ k, (w1 k : EReal))
        - (lam : EReal) * Ideal.div (∑ k, (w2 k : EReal) * (v k : EReal)) (∑ k, (w2 k : EReal))
      = ∑ k, (Ideal.div (w1 k : EReal) (∑ j, (w1 j : EReal))
          - (lam : EReal) * Ideal.div (w2 k : EReal) (∑ j, (w2 j : EReal))) * (v k : EReal) := by
  simp only [← EReal.coe_mul, ← coe_sum]
  simp only [Ideal.div_coe h1, Ideal.div_coe h2, ← EReal.coe_mul, ← EReal.coe_sub, ← coe_sum]
  congr 1
  simp only [Finset.sum_mul, sub_mul, Finset.mul_sum, Finset.sum_sub_distrib]
  congr 1 <;> refine Finset.sum_congr rfl fun k _ => ?_ <;> ring

end AttnMath

end

end
-- ==== Proof.Chain.lean ====
module

public import proofs.«01_k».proof.Proof.Gen.KernelIdeal.Skeleton
public import proofs.«01_k».proof.Proof.Online
public import Idealize.ShloMosaic.Lib.Pointwise

@[expose] public section

set_option maxRecDepth 16384

noncomputable section

namespace AttnMath

open Idealize.ShloMosaic Idealize.SL.Sem Cert.KernelIdeal Cert.KernelIdeal.Gen

/-! # One online-softmax step on a tile of scores, read element by element -/

/-- A maximum taken first over the tile's vector registers and then over the sublanes is the maximum over its rows. -/
theorem fold_max_rows {W N : ℕ} (hN : N = W * 8) (f : Fin N → EReal) (g : Fin 8 → Fin W → EReal)
    (hg : ∀ r b, g r b = f ⟨b.val * 8 + r.val, by omega⟩) :
    (Finset.univ.fold max (⊥ : EReal) fun r => Finset.univ.fold max (⊥ : EReal) (g r)) = Finset.univ.sup f := by
  show (Finset.univ.sup fun r => Finset.univ.sup (g r)) = Finset.univ.sup f
  refine le_antisymm (Finset.sup_le fun r _ => Finset.sup_le fun b _ => ?_) (Finset.sup_le fun k _ => ?_)
  · rw [hg]
    exact Finset.le_sup (f := f) (Finset.mem_univ _)
  · have h1 : f k = g ⟨k.val % 8, by omega⟩ ⟨k.val / 8, by omega⟩ := by
      rw [hg]
      congr 1
      exact Fin.ext (by simp; omega)
    rw [h1]
    exact le_trans (Finset.le_sup (f := g ⟨k.val % 8, by omega⟩) (Finset.mem_univ _))
      (Finset.le_sup (f := fun r => Finset.univ.sup (g r)) (Finset.mem_univ _))

theorem negInf_eq : Ideal.ofBits .f32 0xFF800000#32 = (⊥ : EReal) := by
  simp [Ideal.ofBits, Ideal.ieee]

/-- The scores of a tile of 512 keys against 512 queries. -/
def score (K : FVec Ideal S512x128 .bf16) (Q : FVec Ideal S1x1x128x512 .bf16) : FVec Ideal S512x512 .f32 :=
  k0_pay2 K Q

theorem score_apply (K : FVec Ideal S512x128 .bf16) (Q : FVec Ideal S1x1x128x512 .bf16) (k q : Fin 512) :
    score K Q (ix2 k q) = ∑ d : Fin 128, K (ix2 k d) * Q (ix4 0 0 d q) := by
  unfold score k0_pay2
  pointwise

/-- The maximum of a tile's scores in each sublane. -/
def lanes (S : FVec Ideal S512x512 .f32) : FVec Ideal S8x512 .f32 :=
  multiReduction .maximumf [0] S8x512 (shapeCast S64x8x512 S shapeCasts_S512x512_S64x8x512) 0xFF800000#32
    reduces_S64x8x512_S8x512 (.inl rfl) rfl

def stepM (S : FVec Ideal S512x512 .f32) (m : FVec Ideal S1x1x1x512 .f32) : FVec Ideal S1x512 .f32 :=
  k0_pay16 (lanes S) m

theorem stepM_apply (S : FVec Ideal S512x512 .f32) (m : FVec Ideal S1x1x1x512 .f32) (q : Fin 512) :
    stepM S m (ix2 0 q) = max (m (ix4 0 0 0 q)) (Finset.univ.sup fun k : Fin 512 => S (ix2 k q)) := by
  unfold stepM k0_pay16 k0_pay15 lanes
  pointwise
  rw [negInf_eq]
  have h := fold_max_rows (W := 64) (N := 512) rfl (fun k => S (ix2 k q))
    (fun r b => S (ix2 ⟨b.val * 8 + r.val, by omega⟩ q)) (fun _ _ => rfl)
  exact congrArg (max _) h

def stepP (S : FVec Ideal S512x512 .f32) (m : FVec Ideal S1x1x1x512 .f32) : FVec Ideal S64x8x512 .f32 :=
  k0_pay18 (lanes S) m (shapeCast S1x512x512 S shapeCasts_S512x512_S1x512x512)

theorem stepP_apply (S : FVec Ideal S512x512 .f32) (m : FVec Ideal S1x1x1x512 .f32) (b : Fin 64) (r : Fin 8) (q : Fin 512) :
    stepP S m (ix3 b r q) = E (S (ix2 ⟨b.val * 8 + r.val, by omega⟩ q)) (stepM S m (ix2 0 q)) := by
  unfold stepP k0_pay18
  pointwise
  rfl

theorem stepL_apply (S : FVec Ideal S512x512 .f32) (m : FVec Ideal S1x1x1x512 .f32) (l : FVec Ideal S1x1x8x512 .f32)
    (r : Fin 8) (q : Fin 512) :
    k0_pay19 (k0_pay17 (lanes S) m) (stepP S m) l (ix4 0 0 r q)
      = E (m (ix4 0 0 0 q)) (stepM S m (ix2 0 q)) * l (ix4 0 0 r q)
        + ∑ b : Fin 64, E (S (ix2 ⟨b.val * 8 + r.val, by omega⟩ q)) (stepM S m (ix2 0 q)) := by
  simp only [← stepP_apply]
  unfold k0_pay19 k0_pay17 k0_pay15
  pointwise
  rfl

theorem stepA_apply (V : FVec Ideal S128x512 .bf16) (S : FVec Ideal S512x512 .f32) (m : FVec Ideal S1x1x1x512 .f32)
    (a : FVec Ideal S1x1x128x512 .f32) (e : Fin 128) (q : Fin 512) :
    k0_pay20 V (k0_pay17 (lanes S) m) (stepP S m) a (ix4 0 0 e q)
      = E (m (ix4 0 0 0 q)) (stepM S m (ix2 0 q)) * a (ix4 0 0 e q)
        + ∑ k : Fin 512, V (ix2 e k) * E (S (ix2 k q)) (stepM S m (ix2 0 q)) := by
  have h : ∀ k : Fin 512, E (S (ix2 k q)) (stepM S m (ix2 0 q))
      = stepP S m (ix3 ⟨k.val / 8, by omega⟩ ⟨k.val % 8, by omega⟩ q) := fun k => by
    rw [stepP_apply]
    congr 3
    exact Fin.ext (by simp; omega)
  simp only [h]
  unfold k0_pay20 k0_pay17 k0_pay15
  pointwise
  rfl
end AttnMath
-- ==== Proof.Piece.lean ====
module

public import proofs.«01_k».proof.Proof.Chain
public import Idealize.ShloMosaic.Lib.Writes
public import Idealize.ShloMosaic.Lib.Pipeline.ReadBack

@[expose] public section

set_option maxRecDepth 16384

noncomputable section

namespace AttnMath

open Idealize.ShloMosaic Idealize.SL.Sem Cert.KernelIdeal Cert.KernelIdeal.Gen

/-! # One tile's step, stored: each stored piece is a block of one function of the whole state -/

/-- The block of head `g`, part `c` of a state array: its index in the whole array. -/
theorem emb4 {a b w : ℕ} {g c o : ℕ} (hg : g < 8) (hc : c < 2) (inb) (r : Fin a) (q : Fin w) (hq : o + q.val < b) :
    (Rect.unit (s := ⟨4, ![8, 2, a, b]⟩) ![g, c, 0, o] ![1, 1, a, w] inb).emb (ix4 (0 : Fin 1) (0 : Fin 1) r q)
      = ix4 (⟨g, hg⟩ : Fin 8) (⟨c, hc⟩ : Fin 2) r (⟨o + q.val, hq⟩ : Fin b) := by
  refine Rect.emb_eq_of_coords _ _ _ fun x => ?_
  fin_cases x <;> simp [Rect.unit, ix4]

theorem emb4z {a b : ℕ} {g c : ℕ} (hg : g < 8) (hc : c < 2) (inb) (r : Fin a) (q : Fin b) :
    (Rect.unit (s := ⟨4, ![8, 2, a, b]⟩) ![g, c, 0, 0] ![1, 1, a, b] inb).emb (ix4 (0 : Fin 1) (0 : Fin 1) r q)
      = ix4 (⟨g, hg⟩ : Fin 8) (⟨c, hc⟩ : Fin 2) r q := by
  rw [emb4 hg hc inb r q (by omega)]
  congr 1
  exact Fin.ext (Nat.zero_add _)

theorem emb2 {n m a b : ℕ} {o p : ℕ} (inb) (r : Fin n) (q : Fin m) (hr : o + r.val < a) (hq : p + q.val < b) :
    (Rect.unit (s := ⟨2, ![a, b]⟩) ![o, p] ![n, m] inb).emb (ix2 r q)
      = ix2 (⟨o + r.val, hr⟩ : Fin a) (⟨p + q.val, hq⟩ : Fin b) := by
  refine Rect.emb_eq_of_coords _ _ _ fun x => ?_
  fin_cases x <;> simp [Rect.unit, ix2]

theorem emb3 {n m a b : ℕ} {o p : ℕ} (inb) (r : Fin n) (q : Fin m) (hr : o + r.val < a) (hq : p + q.val < b) :
    (Rect.unit (s := ⟨3, ![1, a, b]⟩) ![0, o, p] ![1, n, m] inb).emb (ix3 (0 : Fin 1) r q)
      = ix3 (0 : Fin 1) (⟨o + r.val, hr⟩ : Fin a) (⟨p + q.val, hq⟩ : Fin b) := by
  refine Rect.emb_eq_of_coords _ _ _ fun x => ?_
  fin_cases x <;> simp [Rect.unit, ix3]

/-- The score of key `k` against query `q` for head `g`, part `c`. -/
def sc (K : FVec Ideal S8192x1024 .bf16) (Q : FVec Ideal S8x2x128x512 .bf16) (g : Fin 8) (c : Fin 2) (q : Fin 512)
    (k : Fin 8192) : EReal :=
  ∑ d : Fin 128, K (ix2 k ⟨128 * g.val + d.val, by omega⟩) * Q (ix4 g c d q)

/-- The values of head `g`: feature `e` of key `k`. -/
def vv (V : FVec Ideal S1x1024x8192 .bf16) (g : Fin 8) (e : Fin 128) (k : Fin 8192) : EReal :=
  V (ix3 0 ⟨128 * g.val + e.val, by omega⟩ k)

/-- The maxima after a tile of `W` keys from `n` on. -/
def nextM (s : Fin 8 → Fin 2 → Fin 512 → Fin 8192 → EReal) (M : FVec Ideal S8x2x1x512 .f32) (n W : ℕ) (h : n + W ≤ 8192) :
    FVec Ideal S8x2x1x512 .f32 :=
  fun y => max (M y) (Finset.univ.sup fun k : Fin W => s (y 0) (y 1) (y 3) ⟨n + k.val, by omega⟩)

/-- The sums of weights after a tile of `8 * W` keys from `n` on. -/
def nextL (s : Fin 8 → Fin 2 → Fin 512 → Fin 8192 → EReal) (M : FVec Ideal S8x2x1x512 .f32) (L : FVec Ideal S8x2x8x512 .f32)
    (n W : ℕ) (h : n + 8 * W ≤ 8192) : FVec Ideal S8x2x8x512 .f32 :=
  fun y => E (M (ix4 (y 0) (y 1) 0 (y 3))) (nextM s M n (8 * W) h (ix4 (y 0) (y 1) 0 (y 3))) * L y
    + ∑ b : Fin W, E (s (y 0) (y 1) (y 3) ⟨n + (b.val * 8 + (y 2).val), by have h2 : (y 2).val < 8 := (y 2).isLt; omega⟩)
        (nextM s M n (8 * W) h (ix4 (y 0) (y 1) 0 (y 3)))

/-- The weighted sums of values after a tile of `W` keys from `n` on. -/
def nextA (s : Fin 8 → Fin 2 → Fin 512 → Fin 8192 → EReal) (v : Fin 8 → Fin 128 → Fin 8192 → EReal)
    (M : FVec Ideal S8x2x1x512 .f32) (A : FVec Ideal S8x2x128x512 .f32)
    (n W : ℕ) (h : n + W ≤ 8192) : FVec Ideal S8x2x128x512 .f32 :=
  fun y => E (M (ix4 (y 0) (y 1) 0 (y 3))) (nextM s M n W h (ix4 (y 0) (y 1) 0 (y 3))) * A y
    + ∑ k : Fin W, v (y 0) (y 2) ⟨n + k.val, by omega⟩ * E (s (y 0) (y 1) (y 3) ⟨n + k.val, by omega⟩)
        (nextM s M n W h (ix4 (y 0) (y 1) 0 (y 3)))

theorem pieceM {g c n : ℕ} (hg : g < 8) (hc : c < 2) (h : n + 512 ≤ 8192) (s : Fin 8 → Fin 2 → Fin 512 → Fin 8192 → EReal)
    (M : FVec Ideal S8x2x1x512 .f32) (S : FVec Ideal S512x512 .f32) (m : FVec Ideal S1x1x1x512 .f32) (i4)
    (hS : ∀ k q : Fin 512, S (ix2 k q) = s ⟨g, hg⟩ ⟨c, hc⟩ q ⟨n + k.val, by omega⟩)
    (hm : ∀ q : Fin 512, m (ix4 0 0 0 q) = M (ix4 ⟨g, hg⟩ ⟨c, hc⟩ 0 q))
    (y : (Rect.unit (s := S8x2x1x512) ![g, c, 0, 0] ![1, 1, 1, 512] i4).shape.Idx) :
    k0_pay21 (stepM S m) y = nextM s M n 512 h ((Rect.unit ![g, c, 0, 0] ![1, 1, 1, 512] i4).emb y) := by
  obtain ⟨y0, y1, y2, q, rfl⟩ : ∃ (y0 : Fin 1) (y1 : Fin 1) (y2 : Fin 1) (q : Fin 512), y = ix4 y0 y1 y2 q :=
    ⟨y 0, y 1, y 2, y 3, eq_ix4 y⟩
  obtain rfl : y0 = 0 := Subsingleton.elim _ _
  obtain rfl : y1 = 0 := Subsingleton.elim _ _
  obtain rfl : y2 = 0 := Subsingleton.elim _ _
  rw [emb4z (a := 1) (b := 512) hg hc i4 0 q]
  unfold k0_pay21
  pointwise
  rw [stepM_apply, hm]
  unfold nextM
  exact congrArg₂ max rfl (congrArg _ (funext fun k => hS k q))

theorem pieceL {g c n : ℕ} (hg : g < 8) (hc : c < 2) (h : n + 512 ≤ 8192) (s : Fin 8 → Fin 2 → Fin 512 → Fin 8192 → EReal)
    (M : FVec Ideal S8x2x1x512 .f32) (L : FVec Ideal S8x2x8x512 .f32) (S : FVec Ideal S512x512 .f32)
    (m : FVec Ideal S1x1x1x512 .f32) (l : FVec Ideal S1x1x8x512 .f32) (i4)
    (hS : ∀ k q : Fin 512, S (ix2 k q) = s ⟨g, hg⟩ ⟨c, hc⟩ q ⟨n + k.val, by omega⟩)
    (hm : ∀ q : Fin 512, m (ix4 0 0 0 q) = M (ix4 ⟨g, hg⟩ ⟨c, hc⟩ 0 q))
    (hl : ∀ (r : Fin 8) (q : Fin 512), l (ix4 0 0 r q) = L (ix4 ⟨g, hg⟩ ⟨c, hc⟩ r q))
    (y : (Rect.unit (s := S8x2x8x512) ![g, c, 0, 0] ![1, 1, 8, 512] i4).shape.Idx) :
    k0_pay19 (k0_pay17 (lanes S) m) (stepP S m) l y
      = nextL s M L n 64 h ((Rect.unit ![g, c, 0, 0] ![1, 1, 8, 512] i4).emb y) := by
  obtain ⟨y0, y1, r, q, rfl⟩ : ∃ (y0 : Fin 1) (y1 : Fin 1) (r : Fin 8) (q : Fin 512), y = ix4 y0 y1 r q :=
    ⟨y 0, y 1, y 2, y 3, eq_ix4 y⟩
  obtain rfl : y0 = 0 := Subsingleton.elim _ _
  obtain rfl : y1 = 0 := Subsingleton.elim _ _
  rw [emb4z (a := 8) (b := 512) hg hc i4 r q]
  have e : stepM S m (ix2 0 q) = nextM s M n 512 h (ix4 ⟨g, hg⟩ ⟨c, hc⟩ 0 q) := by
    rw [stepM_apply, hm]
    exact congrArg₂ max rfl (congrArg _ (funext fun k => hS k q))
  rw [stepL_apply, hm, hl, e]
  unfold nextL
  refine congrArg₂ (· + ·) rfl (Finset.sum_congr rfl fun b _ => ?_)
  exact congrArg₂ E (hS ⟨b.val * 8 + r.val, by omega⟩ q) rfl

theorem pieceA {g c n : ℕ} (hg : g < 8) (hc : c < 2) (h : n + 512 ≤ 8192) (s : Fin 8 → Fin 2 → Fin 512 → Fin 8192 → EReal)
    (v : Fin 8 → Fin 128 → Fin 8192 → EReal)
    (M : FVec Ideal S8x2x1x512 .f32) (A : FVec Ideal S8x2x128x512 .f32) (S : FVec Ideal S512x512 .f32)
    (V : FVec Ideal S128x512 .bf16) (m : FVec Ideal S1x1x1x512 .f32) (a : FVec Ideal S1x1x128x512 .f32) (i4)
    (hS : ∀ k q : Fin 512, S (ix2 k q) = s ⟨g, hg⟩ ⟨c, hc⟩ q ⟨n + k.val, by omega⟩)
    (hV : ∀ (e : Fin 128) (k : Fin 512), V (ix2 e k) = v ⟨g, hg⟩ e ⟨n + k.val, by omega⟩)
    (hm : ∀ q : Fin 512, m (ix4 0 0 0 q) = M (ix4 ⟨g, hg⟩ ⟨c, hc⟩ 0 q))
    (ha : ∀ (e : Fin 128) (q : Fin 512), a (ix4 0 0 e q) = A (ix4 ⟨g, hg⟩ ⟨c, hc⟩ e q))
    (y : (Rect.unit (s := S8x2x128x512) ![g, c, 0, 0] ![1, 1, 128, 512] i4).shape.Idx) :
    k0_pay20 V (k0_pay17 (lanes S) m) (stepP S m) a y
      = nextA s v M A n 512 h ((Rect.unit ![g, c, 0, 0] ![1, 1, 128, 512] i4).emb y) := by
  obtain ⟨y0, y1, r, q, rfl⟩ : ∃ (y0 : Fin 1) (y1 : Fin 1) (r : Fin 128) (q : Fin 512), y = ix4 y0 y1 r q :=
    ⟨y 0, y 1, y 2, y 3, eq_ix4 y⟩
  obtain rfl : y0 = 0 := Subsingleton.elim _ _
  obtain rfl : y1 = 0 := Subsingleton.elim _ _
  rw [emb4z (a := 128) (b := 512) hg hc i4 r q]
  have e : stepM S m (ix2 0 q) = nextM s M n 512 h (ix4 ⟨g, hg⟩ ⟨c, hc⟩ 0 q) := by
    rw [stepM_apply, hm]
    exact congrArg₂ max rfl (congrArg _ (funext fun k => hS k q))
  rw [stepA_apply, hm, ha, e]
  unfold nextA
  refine congrArg₂ (· + ·) rfl (Finset.sum_congr rfl fun k _ => ?_)
  exact congrArg₂ (· * ·) (hV r k) (congrArg₂ E (hS k q) rfl)

end AttnMath
-- ==== Proof.Trip.lean ====
module

public import proofs.«01_k».proof.Proof.Piece
public import proofs.«01_k».proof.Proof.Gen.KernelIdeal.Loops

@[expose] public section

set_option maxRecDepth 16384
set_option maxHeartbeats 4000000

noncomputable section

namespace AttnMath

open Idealize.ShloMosaic Idealize.ShloMosaic.TcCoe Idealize.ShloMosaic.Tactic
open Idealize.SL.Sem Cert.KernelIdeal Cert.KernelIdeal.Gen

/-! # One trip of the loop over the earlier tiles of keys -/

theorem trips_eq (i : grid0.Coords) : (k0_t1_loop i).trips = (i 2).val := by
  have h : ∀ x : Fin 16, Scf.Loop.trips (⟨0#32, Scalar.addi 0#32 (Scalar.muli (Scalar.divsi
      (Scalar.subi (BitVec.ofNat 32 x.val) 0#32) 1#32) 1#32), 1#32⟩ : Scf.Loop 32) = x.val := by decide
  exact h (i 2)

theorem trip_lt (i : grid0.Coords) (k : Fin (k0_t1_loop i).trips) : k.val < 15 := by
  have h : (i 2).val < 16 := (i 2).isLt
  have h2 : k.val < (i 2).val := lt_of_lt_of_eq k.isLt (trips_eq i)
  omega

/-- The first row of the trip's tile, computed by the kernel in 32-bit words. -/
theorem iv_mul (n : ℕ) (h : n < 15) :
    BitVec.toNat (Scalar.indexCast (Scalar.muli (Scf.iv 0#32 1#32 n) 512#32)) = 512 * n := by
  have e : ∀ x : Fin 15, BitVec.toNat (Scalar.indexCast (Scalar.muli (Scf.iv 0#32 1#32 x.val) 512#32)) = 512 * x.val := by
    decide
  exact e ⟨n, h⟩

theorem koff (i : grid0.Coords) (k : Fin (k0_t1_loop i).trips) (g : ℕ) (off : Fin 2 → ℕ)
    (h : off = ![BitVec.toNat (Scalar.indexCast (Scalar.muli (Scf.iv 0#32 1#32 k.val) 512#32)), 128 * g]) :
    off = ![512 * k.val, 128 * g] := by
  rw [h, iv_mul _ (trip_lt i k)]

theorem voff (i : grid0.Coords) (k : Fin (k0_t1_loop i).trips) (g : ℕ) (off : Fin 3 → ℕ)
    (h : off = ![0, 128 * g, BitVec.toNat (Scalar.indexCast (Scalar.muli (Scf.iv 0#32 1#32 k.val) 512#32))]) :
    off = ![0, 128 * g, 512 * k.val] := by
  rw [h, iv_mul _ (trip_lt i k)]

section

variable (𝒱 : Variants) (c : Dev nD) (bd : Option 𝒱.V) (i : grid0.Coords) (arg3 : Memref sig .tc .vmem S2x64 .f32) (harg3 : arg3.IsWhole) (arg4 : Memref sig .tc .vmem S2x64 .f32) (harg4 : arg4.IsWhole) (arg5 : Memref sig .tc .vmem S128x1 .f32) (harg5 : arg5.IsWhole) (arg6 : Memref sig .tc .vmem S8192x1024 .bf16) (harg6 : arg6.IsWhole) (arg7 : Memref sig .tc .vmem S1x1024x8192 .bf16) (harg7 : arg7.IsWhole) (arg8 : Memref sig .tc .vmem S1x1024x512 .f32) (harg8 : arg8.IsWhole) (arg9 : Memref sig .tc .vmem S512x1024 .bf16) (harg9 : arg9.IsWhole) (arg10 : Memref sig .tc .vmem S8x2x128x512 .bf16) (harg10 : arg10.IsWhole) (arg11 : Memref sig .tc .vmem S5x512x512 .f32) (harg11 : arg11.IsWhole) (arg12 : Memref sig .tc .vmem S8x2x1x512 .f32) (harg12 : arg12.IsWhole) (arg13 : Memref sig .tc .vmem S8x2x8x512 .f32) (harg13 : arg13.IsWhole) (arg14 : Memref sig .tc .vmem S8x2x128x512 .f32) (harg14 : arg14.IsWhole) (arg2 : BitVec 32) (v149 : FVec Ideal S8x2x8x512 .f32) (X_arg6 : BufTy.Contents (Elt Ideal) arg6.view.ty) (X_arg7 : BufTy.Contents (Elt Ideal) arg7.view.ty) (X_arg10 : BufTy.Contents (Elt Ideal) arg10.view.ty)

theorem read_score {n g c : ℕ} (hg : g < 8) (hc : c < 2) (h : n + 512 ≤ 8192) (off : Fin 2 → ℕ) (hoff : off = ![n, 128 * g]) (iK iQ)
    (k q : Fin 512) :
    score (arg6.view.readAt (Elt Ideal) (Rect.unit (s := S8192x1024) off ![512, 128] iK).toLoadRect X_arg6)
        (arg10.view.readAt (Elt Ideal) (Rect.unit (s := S8x2x128x512) ![g, c, 0, 0] ![1, 1, 128, 512] iQ).toLoadRect X_arg10) (ix2 k q)
      = sc (arg6.view.read (Elt Ideal) X_arg6) (arg10.view.read (Elt Ideal) X_arg10) ⟨g, hg⟩ ⟨c, hc⟩ q ⟨n + k.val, by omega⟩ := by
  subst hoff
  rw [score_apply]
  unfold sc
  refine Finset.sum_congr rfl fun d _ => congrArg₂ (· * ·) ?_ ?_
  · exact congrArg (arg6.view.read (Elt Ideal) X_arg6) (emb2 iK k d _ (by omega))
  · exact congrArg (arg10.view.read (Elt Ideal) X_arg10) (emb4z hg hc iQ d q)

theorem unitM {n g c : ℕ} (hg : g < 8) (hc : c < 2) (h : n + 512 ≤ 8192) (off : Fin 2 → ℕ) (hoff : off = ![n, 128 * g]) (iK iQ i4)
    (f12 : BufTy.Contents (Elt Ideal) arg12.view.ty) (y : (Rect.unit (s := S8x2x1x512) ![g, c, 0, 0] ![1, 1, 1, 512] i4).shape.Idx) :
    k0_pay21 (stepM (score (arg6.view.readAt (Elt Ideal) (Rect.unit (s := S8192x1024) off ![512, 128] iK).toLoadRect X_arg6)
        (arg10.view.readAt (Elt Ideal) (Rect.unit (s := S8x2x128x512) ![g, c, 0, 0] ![1, 1, 128, 512] iQ).toLoadRect X_arg10))
        (arg12.view.readAt (Elt Ideal) (Rect.unit (s := S8x2x1x512) ![g, c, 0, 0] ![1, 1, 1, 512] i4).toLoadRect f12)) y
      = nextM (sc (arg6.view.read (Elt Ideal) X_arg6) (arg10.view.read (Elt Ideal) X_arg10)) (arg12.view.read (Elt Ideal) f12)
          n 512 h ((Rect.unit ![g, c, 0, 0] ![1, 1, 1, 512] i4).emb y) :=
  pieceM hg hc h _ _ _ _ i4 (read_score arg6 arg10 X_arg6 X_arg10 hg hc h off hoff iK iQ)
    (fun q => congrArg (arg12.view.read (Elt Ideal) f12) (emb4z hg hc i4 0 q)) y

theorem unitL {n g c : ℕ} (hg : g < 8) (hc : c < 2) (h : n + 512 ≤ 8192) (off : Fin 2 → ℕ) (hoff : off = ![n, 128 * g]) (iK iQ i4 i5)
    (f12 : BufTy.Contents (Elt Ideal) arg12.view.ty) (f13 : BufTy.Contents (Elt Ideal) arg13.view.ty)
    (P : FVec Ideal S1x512x512 .f32)
    (hP : P = shapeCast S1x512x512 (score (arg6.view.readAt (Elt Ideal) (Rect.unit (s := S8192x1024) off ![512, 128] iK).toLoadRect X_arg6)
        (arg10.view.readAt (Elt Ideal) (Rect.unit (s := S8x2x128x512) ![g, c, 0, 0] ![1, 1, 128, 512] iQ).toLoadRect X_arg10))
        shapeCasts_S512x512_S1x512x512)
    (y : (Rect.unit (s := S8x2x8x512) ![g, c, 0, 0] ![1, 1, 8, 512] i5).shape.Idx) :
    k0_pay19 (k0_pay17 (lanes (score (arg6.view.readAt (Elt Ideal) (Rect.unit (s := S8192x1024) off ![512, 128] iK).toLoadRect X_arg6)
        (arg10.view.readAt (Elt Ideal) (Rect.unit (s := S8x2x128x512) ![g, c, 0, 0] ![1, 1, 128, 512] iQ).toLoadRect X_arg10)))
        (arg12.view.readAt (Elt Ideal) (Rect.unit (s := S8x2x1x512) ![g, c, 0, 0] ![1, 1, 1, 512] i4).toLoadRect f12))
        (k0_pay18 (lanes (score (arg6.view.readAt (Elt Ideal) (Rect.unit (s := S8192x1024) off ![512, 128] iK).toLoadRect X_arg6)
        (arg10.view.readAt (Elt Ideal) (Rect.unit (s := S8x2x128x512) ![g, c, 0, 0] ![1, 1, 128, 512] iQ).toLoadRect X_arg10)))
        (arg12.view.readAt (Elt Ideal) (Rect.unit (s := S8x2x1x512) ![g, c, 0, 0] ![1, 1, 1, 512] i4).toLoadRect f12) P)
        (arg13.view.readAt (Elt Ideal) (Rect.unit (s := S8x2x8x512) ![g, c, 0, 0] ![1, 1, 8, 512] i5).toLoadRect f13) y
      = nextL (sc (arg6.view.read (Elt Ideal) X_arg6) (arg10.view.read (Elt Ideal) X_arg10)) (arg12.view.read (Elt Ideal) f12)
          (arg13.view.read (Elt Ideal) f13) n 64 h ((Rect.unit ![g, c, 0, 0] ![1, 1, 8, 512] i5).emb y) := by
  subst hP
  exact pieceL hg hc h _ _ _ _ _ _ i5 (read_score arg6 arg10 X_arg6 X_arg10 hg hc h off hoff iK iQ)
    (fun q => congrArg (arg12.view.read (Elt Ideal) f12) (emb4z hg hc i4 0 q))
    (fun r q => congrArg (arg13.view.read (Elt Ideal) f13) (emb4z hg hc i5 r q)) y

theorem unitA {n g c : ℕ} (hg : g < 8) (hc : c < 2) (h : n + 512 ≤ 8192) (off : Fin 2 → ℕ) (hoff : off = ![n, 128 * g])
    (offV : Fin 3 → ℕ) (hoffV : offV = ![0, 128 * g, n]) (iK iV iQ i4 i5)
    (f12 : BufTy.Contents (Elt Ideal) arg12.view.ty) (f14 : BufTy.Contents (Elt Ideal) arg14.view.ty)
    (P : FVec Ideal S1x512x512 .f32)
    (hP : P = shapeCast S1x512x512 (score (arg6.view.readAt (Elt Ideal) (Rect.unit (s := S8192x1024) off ![512, 128] iK).toLoadRect X_arg6)
        (arg10.view.readAt (Elt Ideal) (Rect.unit (s := S8x2x128x512) ![g, c, 0, 0] ![1, 1, 128, 512] iQ).toLoadRect X_arg10))
        shapeCasts_S512x512_S1x512x512)
    (y : (Rect.unit (s := S8x2x128x512) ![g, c, 0, 0] ![1, 1, 128, 512] i5).shape.Idx) :
    k0_pay20 (shapeCast S128x512 (arg7.view.readAt (Elt Ideal) (Rect.unit (s := S1x1024x8192) offV ![1, 128, 512] iV).toLoadRect X_arg7)
        shapeCasts_S1x128x512_S128x512)
        (k0_pay17 (lanes (score (arg6.view.readAt (Elt Ideal) (Rect.unit (s := S8192x1024) off ![512, 128] iK).toLoadRect X_arg6)
        (arg10.view.readAt (Elt Ideal) (Rect.unit (s := S8x2x128x512) ![g, c, 0, 0] ![1, 1, 128, 512] iQ).toLoadRect X_arg10)))
        (arg12.view.readAt (Elt Ideal) (Rect.unit (s := S8x2x1x512) ![g, c, 0, 0] ![1, 1, 1, 512] i4).toLoadRect f12))
        (k0_pay18 (lanes (score (arg6.view.readAt (Elt Ideal) (Rect.unit (s := S8192x1024) off ![512, 128] iK).toLoadRect X_arg6)
        (arg10.view.readAt (Elt Ideal) (Rect.unit (s := S8x2x128x512) ![g, c, 0, 0] ![1, 1, 128, 512] iQ).toLoadRect X_arg10)))
        (arg12.view.readAt (Elt Ideal) (Rect.unit (s := S8x2x1x512) ![g, c, 0, 0] ![1, 1, 1, 512] i4).toLoadRect f12) P)
        (arg14.view.readAt (Elt Ideal) (Rect.unit (s := S8x2x128x512) ![g, c, 0, 0] ![1, 1, 128, 512] i5).toLoadRect f14) y
      = nextA (sc (arg6.view.read (Elt Ideal) X_arg6) (arg10.view.read (Elt Ideal) X_arg10)) (vv (arg7.view.read (Elt Ideal) X_arg7))
          (arg12.view.read (Elt Ideal) f12)
          (arg14.view.read (Elt Ideal) f14) n 512 h ((Rect.unit ![g, c, 0, 0] ![1, 1, 128, 512] i5).emb y) := by
  subst hP hoffV
  refine pieceA hg hc h _ _ _ _ _ _ _ _ i5 (read_score arg6 arg10 X_arg6 X_arg10 hg hc h off hoff iK iQ) (fun e k => ?_)
    (fun q => congrArg (arg12.view.read (Elt Ideal) f12) (emb4z hg hc i4 0 q))
    (fun r q => congrArg (arg14.view.read (Elt Ideal) f14) (emb4z hg hc i5 r q)) y
  pointwise
  exact congrArg (arg7.view.read (Elt Ideal) X_arg7) (emb3 iV e k (by omega) _)

theorem trip_m (k : Fin (k0_t1_loop i).trips) (f11 : BufTy.Contents (Elt Ideal) arg11.view.ty)
    (f12 : BufTy.Contents (Elt Ideal) arg12.view.ty) (f13 : BufTy.Contents (Elt Ideal) arg13.view.ty)
    (f14 : BufTy.Contents (Elt Ideal) arg14.view.ty) (h : 512 * k.val + 512 ≤ 8192) :
    arg12.view.read (Elt Ideal) (arg12.view.writes (Elt Ideal) f12 (tripL_k0_t1 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 k f11 f12 f13 f14).2.1)
      = nextM (sc (arg6.view.read (Elt Ideal) X_arg6) (arg10.view.read (Elt Ideal) X_arg10)) (arg12.view.read (Elt Ideal) f12)
          (512 * k.val) 512 h := by
  funext y
  apply View.read_writes_apply_of_pieces
  · unfold tripL_k0_t1 trip_k0_t1
    dsimp only
    refine View.PiecesOf.mem ⟨fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      trivial⟩
    all_goals exact unitM arg6 arg10 arg12 X_arg6 X_arg10 (by omega) (by omega) h _ (koff i k _ _ rfl) _ _ _ f12 x
  · unfold tripL_k0_t1 trip_k0_t1
    dsimp only
    exact View.cover_of_tiled _ ![1, 1, 1, 512] rfl y

theorem trip_l (k : Fin (k0_t1_loop i).trips) (f11 : BufTy.Contents (Elt Ideal) arg11.view.ty)
    (f12 : BufTy.Contents (Elt Ideal) arg12.view.ty) (f13 : BufTy.Contents (Elt Ideal) arg13.view.ty)
    (f14 : BufTy.Contents (Elt Ideal) arg14.view.ty) (h : 512 * k.val + 512 ≤ 8192) :
    arg13.view.read (Elt Ideal) (arg13.view.writes (Elt Ideal) f13 (tripL_k0_t1 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 k f11 f12 f13 f14).2.2.1)
      = nextL (sc (arg6.view.read (Elt Ideal) X_arg6) (arg10.view.read (Elt Ideal) X_arg10)) (arg12.view.read (Elt Ideal) f12)
          (arg13.view.read (Elt Ideal) f13) (512 * k.val) 64 h := by
  funext y
  apply View.read_writes_apply_of_pieces
  · unfold tripL_k0_t1 trip_k0_t1
    dsimp only
    refine View.PiecesOf.mem ⟨fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      trivial⟩
    all_goals
      refine unitL arg6 arg10 arg12 arg13 X_arg6 X_arg10 (by omega) (by omega) h _ (koff i k _ _ rfl) _ _ _ _ f12 f13 _ ?_ x
      sl_unfold_run_names
      iterate 6 try refine (View.readCov_skip _ _ _ _ _ rfl).trans ?_
      exact View.readCov_cons_toLoadRect _ _ _ _
  · unfold tripL_k0_t1 trip_k0_t1
    dsimp only
    exact View.cover_of_tiled _ ![1, 1, 8, 512] rfl y

theorem trip_a (k : Fin (k0_t1_loop i).trips) (f11 : BufTy.Contents (Elt Ideal) arg11.view.ty)
    (f12 : BufTy.Contents (Elt Ideal) arg12.view.ty) (f13 : BufTy.Contents (Elt Ideal) arg13.view.ty)
    (f14 : BufTy.Contents (Elt Ideal) arg14.view.ty) (h : 512 * k.val + 512 ≤ 8192) :
    arg14.view.read (Elt Ideal) (arg14.view.writes (Elt Ideal) f14 (tripL_k0_t1 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 k f11 f12 f13 f14).2.2.2)
      = nextA (sc (arg6.view.read (Elt Ideal) X_arg6) (arg10.view.read (Elt Ideal) X_arg10)) (vv (arg7.view.read (Elt Ideal) X_arg7)) (arg12.view.read (Elt Ideal) f12)
          (arg14.view.read (Elt Ideal) f14) (512 * k.val) 512 h := by
  funext y
  apply View.read_writes_apply_of_pieces
  · unfold tripL_k0_t1 trip_k0_t1
    dsimp only
    refine View.PiecesOf.mem ⟨fun x => ?_, fun x => ?_, fun x => ?_, fun x => ?_, fun x => ?_, fun x => ?_, fun x => ?_,
      fun x => ?_, fun x => ?_, fun x => ?_, fun x => ?_, fun x => ?_, fun x => ?_, fun x => ?_, fun x => ?_, fun x => ?_,
      trivial⟩
    all_goals
      refine unitA arg6 arg7 arg10 arg12 arg14 X_arg6 X_arg7 X_arg10 (by omega) (by omega) h _ (koff i k _ _ rfl) _ (voff i k _ _ rfl) _ _ _ _ _ f12 f14 _ ?_ x
      sl_unfold_run_names
      iterate 6 try refine (View.readCov_skip _ _ _ _ _ rfl).trans ?_
      exact View.readCov_cons_toLoadRect _ _ _ _
  · unfold tripL_k0_t1 trip_k0_t1
    dsimp only
    exact View.cover_of_tiled _ ![1, 1, 128, 512] rfl y

end

end AttnMath
-- ==== Proof.Loop.lean ====
module

public import proofs.«01_k».proof.Proof.Trip

@[expose] public section

set_option maxRecDepth 16384
set_option maxHeartbeats 4000000

noncomputable section

namespace AttnMath

open Idealize.ShloMosaic Idealize.ShloMosaic.TcCoe Idealize.ShloMosaic.Tactic
open Idealize.SL.Sem Cert.KernelIdeal Cert.KernelIdeal.Gen

/-! # The state after the keys below a bound, and the loop that reaches it -/

/-- The maxima over the keys below `n`. -/
def stM (s : Fin 8 → Fin 2 → Fin 512 → Fin 8192 → EReal) (n : ℕ) : FVec Ideal S8x2x1x512 .f32 :=
  fun y => runM (s (y 0) (y 1) (y 3)) n

/-- The sums of weights over the keys below `n`, by sublane. -/
def stL (s : Fin 8 → Fin 2 → Fin 512 → Fin 8192 → EReal) (n : ℕ) : FVec Ideal S8x2x8x512 .f32 :=
  fun y => runL (s (y 0) (y 1) (y 3)) n (y 2).val

/-- The weighted sums of values over the keys below `n`. -/
def stA (s : Fin 8 → Fin 2 → Fin 512 → Fin 8192 → EReal) (v : Fin 8 → Fin 128 → Fin 8192 → EReal) (n : ℕ) :
    FVec Ideal S8x2x128x512 .f32 :=
  fun y => runA (s (y 0) (y 1) (y 3)) (v (y 0) (y 2)) n

theorem nextM_st (s : Fin 8 → Fin 2 → Fin 512 → Fin 8192 → EReal) (n W : ℕ) (h : n + W ≤ 8192) :
    nextM s (stM s n) n W h = stM s (n + W) :=
  funext fun y => (runM_add h (s (y 0) (y 1) (y 3)) _ fun _ => rfl).symm

theorem nextL_st (s : Fin 8 → Fin 2 → Fin 512 → Fin 8192 → EReal) (n W : ℕ) (h : n + 8 * W ≤ 8192) (h8 : n % 8 = 0) :
    nextL s (stM s n) (stL s n) n W h = stL s (n + 8 * W) := by
  funext y
  unfold nextL
  rw [nextM_st]
  exact runL_add h h8 (y 2) (s (y 0) (y 1) (y 3)) _ fun _ => rfl

theorem nextA_st (s : Fin 8 → Fin 2 → Fin 512 → Fin 8192 → EReal) (v : Fin 8 → Fin 128 → Fin 8192 → EReal) (n W : ℕ)
    (h : n + W ≤ 8192) : nextA s v (stM s n) (stA s v n) n W h = stA s v (n + W) := by
  funext y
  unfold nextA
  rw [nextM_st]
  exact runA_add h (s (y 0) (y 1) (y 3)) (v (y 0) (y 2)) _ _ (fun _ => rfl) fun _ => rfl

section

variable (𝒱 : Variants) (c : Dev nD) (bd : Option 𝒱.V) (i : grid0.Coords) (arg3 : Memref sig .tc .vmem S2x64 .f32) (harg3 : arg3.IsWhole) (arg4 : Memref sig .tc .vmem S2x64 .f32) (harg4 : arg4.IsWhole) (arg5 : Memref sig .tc .vmem S128x1 .f32) (harg5 : arg5.IsWhole) (arg6 : Memref sig .tc .vmem S8192x1024 .bf16) (harg6 : arg6.IsWhole) (arg7 : Memref sig .tc .vmem S1x1024x8192 .bf16) (harg7 : arg7.IsWhole) (arg8 : Memref sig .tc .vmem S1x1024x512 .f32) (harg8 : arg8.IsWhole) (arg9 : Memref sig .tc .vmem S512x1024 .bf16) (harg9 : arg9.IsWhole) (arg10 : Memref sig .tc .vmem S8x2x128x512 .bf16) (harg10 : arg10.IsWhole) (arg11 : Memref sig .tc .vmem S5x512x512 .f32) (harg11 : arg11.IsWhole) (arg12 : Memref sig .tc .vmem S8x2x1x512 .f32) (harg12 : arg12.IsWhole) (arg13 : Memref sig .tc .vmem S8x2x8x512 .f32) (harg13 : arg13.IsWhole) (arg14 : Memref sig .tc .vmem S8x2x128x512 .f32) (harg14 : arg14.IsWhole) (arg2 : BitVec 32) (v149 : FVec Ideal S8x2x8x512 .f32) (X_arg6 : BufTy.Contents (Elt Ideal) arg6.view.ty) (X_arg7 : BufTy.Contents (Elt Ideal) arg7.view.ty) (X_arg10 : BufTy.Contents (Elt Ideal) arg10.view.ty)
  (G11 : BufTy.Contents (Elt Ideal) arg11.view.ty) (G12 : BufTy.Contents (Elt Ideal) arg12.view.ty)
  (G13 : BufTy.Contents (Elt Ideal) arg13.view.ty) (G14 : BufTy.Contents (Elt Ideal) arg14.view.ty)

theorem loop_state
    (hM : arg12.view.read (Elt Ideal) G12 = stM (sc (arg6.view.read (Elt Ideal) X_arg6) (arg10.view.read (Elt Ideal) X_arg10)) 0)
    (hL : arg13.view.read (Elt Ideal) G13 = stL (sc (arg6.view.read (Elt Ideal) X_arg6) (arg10.view.read (Elt Ideal) X_arg10)) 0)
    (hA : arg14.view.read (Elt Ideal) G14 = stA (sc (arg6.view.read (Elt Ideal) X_arg6) (arg10.view.read (Elt Ideal) X_arg10))
      (vv (arg7.view.read (Elt Ideal) X_arg7)) 0)
    (n : ℕ) (hn : n ≤ (k0_t1_loop i).trips) :
    arg12.view.read (Elt Ideal) (arg12.view.writes (Elt Ideal) G12 (pb_k0_t1 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 G11 G12 G13 G14 n).2.1)
        = stM (sc (arg6.view.read (Elt Ideal) X_arg6) (arg10.view.read (Elt Ideal) X_arg10)) (512 * n)
      ∧ arg13.view.read (Elt Ideal) (arg13.view.writes (Elt Ideal) G13 (pb_k0_t1 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 G11 G12 G13 G14 n).2.2.1)
        = stL (sc (arg6.view.read (Elt Ideal) X_arg6) (arg10.view.read (Elt Ideal) X_arg10)) (512 * n)
      ∧ arg14.view.read (Elt Ideal) (arg14.view.writes (Elt Ideal) G14 (pb_k0_t1 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 G11 G12 G13 G14 n).2.2.2)
        = stA (sc (arg6.view.read (Elt Ideal) X_arg6) (arg10.view.read (Elt Ideal) X_arg10))
            (vv (arg7.view.read (Elt Ideal) X_arg7)) (512 * n) := by
  induction n with
  | zero =>
    rw [pb_k0_t1.eq_1]
    exact ⟨hM, hL, hA⟩
  | succ n ih =>
    obtain ⟨h1, h2, h3⟩ := ih (by omega)
    have hk : 512 * n + 512 ≤ 8192 := by
      have := trip_lt i ⟨n, hn⟩
      dsimp only at this
      omega
    rw [pb_k0_t1_succ 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 G11 G12 G13 G14 ⟨n, hn⟩]
    dsimp only
    rw [View.writes_append, View.writes_append, View.writes_append,
      trip_m 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 ⟨n, hn⟩ _ _ _ _ hk, trip_l 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 ⟨n, hn⟩ _ _ _ _ hk, trip_a 𝒱 c bd i arg3 harg3 arg4 harg4 arg5 harg5 arg6 harg6 arg7 harg7 arg8 harg8 arg9 harg9 arg10 harg10 arg11 harg11 arg12 harg12 arg13 harg13 arg14 harg14 arg2 v149 X_arg6 X_arg7 X_arg10 ⟨n, hn⟩ _ _ _ _ hk]
    dsimp only
    rw [h1, h2, h3, nextM_st, nextL_st _ _ _ _ (by omega), nextA_st]
    exact ⟨rfl, rfl, rfl⟩

end

end AttnMath
-- ==== Proof.Diag.lean ====
module

public import proofs.«01_k».proof.Proof.Loop

@[expose] public section

set_option maxRecDepth 16384
set_option maxHeartbeats 4000000

noncomputable section

namespace AttnMath

open Idealize.ShloMosaic Idealize.SL.Sem Cert.KernelIdeal Cert.KernelIdeal.Gen

/-! # The tiles on the diagonal: 256 keys against 512 queries, then against the last 256 -/

/-- The maximum of a tile's scores in each sublane, 512 queries wide. -/
def lanes' (S : FVec Ideal S256x512 .f32) : FVec Ideal S8x512 .f32 :=
  multiReduction .maximumf [0] S8x512 (shapeCast S32x8x512 S shapeCasts_S256x512_S32x8x512) 0xFF800000#32
    reduces_S32x8x512_S8x512 (.inl rfl) rfl

/-- The maximum of a tile's scores in each sublane, 256 queries wide. -/
def lanes2 (S : FVec Ideal S256x256 .f32) : FVec Ideal S8x256 .f32 :=
  multiReduction .maximumf [0] S8x256 (shapeCast S32x8x256 S shapeCasts_S256x256_S32x8x256) 0xFF800000#32
    reduces_S32x8x256_S8x256 (.inl rfl) rfl

theorem diagMax (S : FVec Ideal S256x512 .f32) (m : FVec Ideal S1x1x1x512 .f32) (q : Fin 512) :
    k0_pay443 (lanes' S) m (ix2 0 q) = max (m (ix4 0 0 0 q)) (Finset.univ.sup fun k : Fin 256 => S (ix2 k q)) := by
  unfold k0_pay443 k0_pay442 lanes'
  pointwise
  rw [negInf_eq]
  have h := fold_max_rows (W := 32) (N := 256) rfl (fun k => S (ix2 k q))
    (fun r b => S (ix2 ⟨b.val * 8 + r.val, by omega⟩ q)) (fun _ _ => rfl)
  exact congrArg (max _) h

theorem diagMax2 (S : FVec Ideal S256x256 .f32) (m : FVec Ideal S1x1x1x256 .f32) (q : Fin 256) :
    k0_pay629 (lanes2 S) m (ix2 0 q) = max (m (ix4 0 0 0 q)) (Finset.univ.sup fun k : Fin 256 => S (ix2 k q)) := by
  unfold k0_pay629 k0_pay628 lanes2
  pointwise
  rw [negInf_eq]
  have h := fold_max_rows (W := 32) (N := 256) rfl (fun k => S (ix2 k q))
    (fun r b => S (ix2 ⟨b.val * 8 + r.val, by omega⟩ q)) (fun _ _ => rfl)
  exact congrArg (max _) h

/-- The scores as the scratch buffer holds them. -/
def slot' (S : FVec Ideal S256x512 .f32) : FVec Ideal S1x256x512 .f32 :=
  shapeCast S1x256x512 S shapeCasts_S256x512_S1x256x512

def slot2 (S : FVec Ideal S256x256 .f32) : FVec Ideal S1x256x256 .f32 :=
  shapeCast S1x256x256 S shapeCasts_S256x256_S1x256x256

theorem diagP (S : FVec Ideal S256x512 .f32) (m : FVec Ideal S1x1x1x512 .f32) (b : Fin 32) (r : Fin 8) (q : Fin 512) :
    k0_pay445 (lanes' S) m (slot' S) (ix3 b r q)
      = E (S (ix2 ⟨b.val * 8 + r.val, by omega⟩ q)) (k0_pay443 (lanes' S) m (ix2 0 q)) := by
  unfold k0_pay445 slot'
  pointwise
  rfl

theorem diagP2 (S : FVec Ideal S256x256 .f32) (m : FVec Ideal S1x1x1x256 .f32) (b : Fin 32) (r : Fin 8) (q : Fin 256) :
    k0_pay631 (lanes2 S) m (slot2 S) (ix3 b r q)
      = E (S (ix2 ⟨b.val * 8 + r.val, by omega⟩ q)) (k0_pay629 (lanes2 S) m (ix2 0 q)) := by
  unfold k0_pay631 slot2
  pointwise
  rfl

theorem diagL (S : FVec Ideal S256x512 .f32) (m : FVec Ideal S1x1x1x512 .f32) (l : FVec Ideal S1x1x8x512 .f32)
    (r : Fin 8) (q : Fin 512) :
    k0_pay447 (k0_pay446 (lanes' S) m (slot' S) l) (ix4 0 0 r q)
      = E (m (ix4 0 0 0 q)) (k0_pay443 (lanes' S) m (ix2 0 q)) * l (ix4 0 0 r q)
        + ∑ b : Fin 32, E (S (ix2 ⟨b.val * 8 + r.val, by omega⟩ q)) (k0_pay443 (lanes' S) m (ix2 0 q)) := by
  simp only [← diagP]
  unfold k0_pay447 k0_pay446 k0_pay444 k0_pay442
  pointwise
  rfl

theorem diagL2 (S : FVec Ideal S256x256 .f32) (m : FVec Ideal S1x1x1x256 .f32) (l : FVec Ideal S1x1x8x256 .f32)
    (r : Fin 8) (q : Fin 256) :
    k0_pay632 (lanes2 S) m (slot2 S) l (ix4 0 0 r q)
      = E (m (ix4 0 0 0 q)) (k0_pay629 (lanes2 S) m (ix2 0 q)) * l (ix4 0 0 r q)
        + ∑ b : Fin 32, E (S (ix2 ⟨b.val * 8 + r.val, by omega⟩ q)) (k0_pay629 (lanes2 S) m (ix2 0 q)) := by
  simp only [← diagP2]
  unfold k0_pay632 k0_pay630 k0_pay628
  pointwise
  rfl

theorem diagA (V : FVec Ideal S128x256 .bf16) (S : FVec Ideal S256x512 .f32) (m : FVec Ideal S1x1x1x512 .f32)
    (a : FVec Ideal S1x1x128x512 .f32) (e : Fin 128) (q : Fin 512) :
    k0_pay448 V (k0_pay444 (lanes' S) m) (k0_pay445 (lanes' S) m (slot' S)) a (ix4 0 0 e q)
      = E (m (ix4 0 0 0 q)) (k0_pay443 (lanes' S) m (ix2 0 q)) * a (ix4 0 0 e q)
        + ∑ k : Fin 256, V (ix2 e k) * E (S (ix2 k q)) (k0_pay443 (lanes' S) m (ix2 0 q)) := by
  have h : ∀ k : Fin 256, E (S (ix2 k q)) (k0_pay443 (lanes' S) m (ix2 0 q))
      = k0_pay445 (lanes' S) m (slot' S) (ix3 ⟨k.val / 8, by omega⟩ ⟨k.val % 8, by omega⟩ q) := fun k => by
    rw [diagP]
    congr 3
    exact Fin.ext (by simp; omega)
  simp only [h]
  unfold k0_pay448 k0_pay444 k0_pay442
  pointwise
  rfl

theorem diagA2 (V : FVec Ideal S1x128x256 .bf16) (S : FVec Ideal S256x256 .f32) (m : FVec Ideal S1x1x1x256 .f32)
    (a : FVec Ideal S1x1x128x256 .f32) (e : Fin 128) (q : Fin 256) :
    k0_pay634 (k0_pay633 (lanes2 S) V m (slot2 S) a) (ix4 0 0 e q)
      = E (m (ix4 0 0 0 q)) (k0_pay629 (lanes2 S) m (ix2 0 q)) * a (ix4 0 0 e q)
        + ∑ k : Fin 256, V (ix3 0 e k) * E (S (ix2 k q)) (k0_pay629 (lanes2 S) m (ix2 0 q)) := by
  have h : ∀ k : Fin 256, E (S (ix2 k q)) (k0_pay629 (lanes2 S) m (ix2 0 q))
      = k0_pay631 (lanes2 S) m (slot2 S) (ix3 ⟨k.val / 8, by omega⟩ ⟨k.val % 8, by omega⟩ q) := fun k => by
    rw [diagP2]
    congr 3
    exact Fin.ext (by simp; omega)
  simp only [h]
  unfold k0_pay634 k0_pay633 k0_pay630 k0_pay628
  pointwise
  rfl

/-! ## Each stored piece is a block of the state after the tile -/

theorem partM {g c n : ℕ} (hg : g < 8) (hc : c < 2) (h : n + 256 ≤ 8192) (s : Fin 8 → Fin 2 → Fin 512 → Fin 8192 → EReal)
    (S : FVec Ideal S256x512 .f32) (m : FVec Ideal S1x1x1x512 .f32) (i4)
    (hS : ∀ (k : Fin 256) (q : Fin 512), S (ix2 k q) = s ⟨g, hg⟩ ⟨c, hc⟩ q ⟨n + k.val, by omega⟩)
    (hm : ∀ q : Fin 512, m (ix4 0 0 0 q) = stM s n (ix4 ⟨g, hg⟩ ⟨c, hc⟩ 0 q))
    (y : (Rect.unit (s := S8x2x1x512) ![g, c, 0, 0] ![1, 1, 1, 512] i4).shape.Idx) :
    k0_pay449 (k0_pay443 (lanes' S) m) y = stM s (n + 256) ((Rect.unit ![g, c, 0, 0] ![1, 1, 1, 512] i4).emb y) := by
  obtain ⟨y0, y1, y2, q, rfl⟩ : ∃ (y0 : Fin 1) (y1 : Fin 1) (y2 : Fin 1) (q : Fin 512), y = ix4 y0 y1 y2 q :=
    ⟨y 0, y 1, y 2, y 3, eq_ix4 y⟩
  obtain rfl : y0 = 0 := Subsingleton.elim _ _
  obtain rfl : y1 = 0 := Subsingleton.elim _ _
  obtain rfl : y2 = 0 := Subsingleton.elim _ _
  rw [emb4z (a := 1) (b := 512) hg hc i4 0 q]
  unfold k0_pay449
  pointwise
  rw [diagMax, hm]
  exact (runM_add h (s ⟨g, hg⟩ ⟨c, hc⟩ q) _ fun k => hS k q).symm

theorem partL {g c n : ℕ} (hg : g < 8) (hc : c < 2) (h : n + 256 ≤ 8192) (h8 : n % 8 = 0)
    (s : Fin 8 → Fin 2 → Fin 512 → Fin 8192 → EReal)
    (S : FVec Ideal S256x512 .f32) (m : FVec Ideal S1x1x1x512 .f32) (P : FVec Ideal S1x256x512 .f32)
    (l : FVec Ideal S1x1x8x512 .f32) (i4)
    (hS : ∀ (k : Fin 256) (q : Fin 512), S (ix2 k q) = s ⟨g, hg⟩ ⟨c, hc⟩ q ⟨n + k.val, by omega⟩)
    (hm : ∀ q : Fin 512, m (ix4 0 0 0 q) = stM s n (ix4 ⟨g, hg⟩ ⟨c, hc⟩ 0 q)) (hP : P = slot' S)
    (hl : ∀ (r : Fin 8) (q : Fin 512), l (ix4 0 0 r q) = stL s n (ix4 ⟨g, hg⟩ ⟨c, hc⟩ r q))
    (y : (Rect.unit (s := S8x2x8x512) ![g, c, 0, 0] ![1, 1, 8, 512] i4).shape.Idx) :
    k0_pay447 (k0_pay446 (lanes' S) m P l) y
      = stL s (n + 256) ((Rect.unit ![g, c, 0, 0] ![1, 1, 8, 512] i4).emb y) := by
  obtain ⟨y0, y1, r, q, rfl⟩ : ∃ (y0 : Fin 1) (y1 : Fin 1) (r : Fin 8) (q : Fin 512), y = ix4 y0 y1 r q :=
    ⟨y 0, y 1, y 2, y 3, eq_ix4 y⟩
  obtain rfl : y0 = 0 := Subsingleton.elim _ _
  obtain rfl : y1 = 0 := Subsingleton.elim _ _
  subst hP
  rw [emb4z (a := 8) (b := 512) hg hc i4 r q, diagL, hm, hl]
  have e : k0_pay443 (lanes' S) m (ix2 0 q) = runM (s ⟨g, hg⟩ ⟨c, hc⟩ q) (n + 256) := by
    rw [diagMax, hm]
    exact (runM_add h (s ⟨g, hg⟩ ⟨c, hc⟩ q) _ fun k => hS k q).symm
  rw [e]
  exact runL_add (W := 32) h h8 r (s ⟨g, hg⟩ ⟨c, hc⟩ q) (fun b => S (ix2 ⟨b.val * 8 + r.val, by omega⟩ q))
    fun b => hS ⟨b.val * 8 + r.val, by omega⟩ q

theorem partA {g c n : ℕ} (hg : g < 8) (hc : c < 2) (h : n + 256 ≤ 8192)
    (s : Fin 8 → Fin 2 → Fin 512 → Fin 8192 → EReal) (v : Fin 8 → Fin 128 → Fin 8192 → EReal)
    (V : FVec Ideal S128x256 .bf16)
    (S : FVec Ideal S256x512 .f32) (m : FVec Ideal S1x1x1x512 .f32) (P : FVec Ideal S1x256x512 .f32)
    (a : FVec Ideal S1x1x128x512 .f32) (i4)
    (hV : ∀ (e : Fin 128) (k : Fin 256), V (ix2 e k) = v ⟨g, hg⟩ e ⟨n + k.val, by omega⟩)
    (hS : ∀ (k : Fin 256) (q : Fin 512), S (ix2 k q) = s ⟨g, hg⟩ ⟨c, hc⟩ q ⟨n + k.val, by omega⟩)
    (hm : ∀ q : Fin 512, m (ix4 0 0 0 q) = stM s n (ix4 ⟨g, hg⟩ ⟨c, hc⟩ 0 q)) (hP : P = slot' S)
    (ha : ∀ (e : Fin 128) (q : Fin 512), a (ix4 0 0 e q) = stA s v n (ix4 ⟨g, hg⟩ ⟨c, hc⟩ e q))
    (y : (Rect.unit (s := S8x2x128x512) ![g, c, 0, 0] ![1, 1, 128, 512] i4).shape.Idx) :
    k0_pay448 V (k0_pay444 (lanes' S) m) (k0_pay445 (lanes' S) m P) a y
      = stA s v (n + 256) ((Rect.unit ![g, c, 0, 0] ![1, 1, 128, 512] i4).emb y) := by
  obtain ⟨y0, y1, r, q, rfl⟩ : ∃ (y0 : Fin 1) (y1 : Fin 1) (r : Fin 128) (q : Fin 512), y = ix4 y0 y1 r q :=
    ⟨y 0, y 1, y 2, y 3, eq_ix4 y⟩
  obtain rfl : y0 = 0 := Subsingleton.elim _ _
  obtain rfl : y1 = 0 := Subsingleton.elim _ _
  subst hP
  rw [emb4z (a := 128) (b := 512) hg hc i4 r q, diagA, hm, ha]
  have e : k0_pay443 (lanes' S) m (ix2 0 q) = runM (s ⟨g, hg⟩ ⟨c, hc⟩ q) (n + 256) := by
    rw [diagMax, hm]
    exact (runM_add h (s ⟨g, hg⟩ ⟨c, hc⟩ q) _ fun k => hS k q).symm
  rw [e]
  exact runA_add h (s ⟨g, hg⟩ ⟨c, hc⟩ q) (v ⟨g, hg⟩ r) (fun k => S (ix2 k q)) (fun k => V (ix2 r k)) (fun k => hS k q)
    fun k => hV r k

theorem partM2 {g c n : ℕ} (hg : g < 8) (hc : c < 2) (h : n + 256 ≤ 8192) (s : Fin 8 → Fin 2 → Fin 512 → Fin 8192 → EReal)
    (S : FVec Ideal S256x256 .f32) (m : FVec Ideal S1x1x1x256 .f32) (i4)
    (hS : ∀ k q : Fin 256, S (ix2 k q) = s ⟨g, hg⟩ ⟨c, hc⟩ ⟨256 + q.val, by omega⟩ ⟨n + k.val, by omega⟩)
    (hm : ∀ q : Fin 256, m (ix4 0 0 0 q) = stM s n (ix4 ⟨g, hg⟩ ⟨c, hc⟩ 0 ⟨256 + q.val, by omega⟩))
    (y : (Rect.unit (s := S8x2x1x512) ![g, c, 0, 256] ![1, 1, 1, 256] i4).shape.Idx) :
    k0_pay635 (k0_pay629 (lanes2 S) m) y = stM s (n + 256) ((Rect.unit ![g, c, 0, 256] ![1, 1, 1, 256] i4).emb y) := by
  obtain ⟨y0, y1, y2, q, rfl⟩ : ∃ (y0 : Fin 1) (y1 : Fin 1) (y2 : Fin 1) (q : Fin 256), y = ix4 y0 y1 y2 q :=
    ⟨y 0, y 1, y 2, y 3, eq_ix4 y⟩
  obtain rfl : y0 = 0 := Subsingleton.elim _ _
  obtain rfl : y1 = 0 := Subsingleton.elim _ _
  obtain rfl : y2 = 0 := Subsingleton.elim _ _
  rw [emb4 (a := 1) (b := 512) hg hc i4 0 q (by omega)]
  unfold k0_pay635
  pointwise
  rw [diagMax2, hm]
  exact (runM_add h (s ⟨g, hg⟩ ⟨c, hc⟩ ⟨256 + q.val, by omega⟩) _ fun k => hS k q).symm

theorem partL2 {g c n : ℕ} (hg : g < 8) (hc : c < 2) (h : n + 256 ≤ 8192) (h8 : n % 8 = 0)
    (s : Fin 8 → Fin 2 → Fin 512 → Fin 8192 → EReal)
    (S : FVec Ideal S256x256 .f32) (m : FVec Ideal S1x1x1x256 .f32) (P : FVec Ideal S1x256x256 .f32)
    (l : FVec Ideal S1x1x8x256 .f32) (i4)
    (hS : ∀ k q : Fin 256, S (ix2 k q) = s ⟨g, hg⟩ ⟨c, hc⟩ ⟨256 + q.val, by omega⟩ ⟨n + k.val, by omega⟩)
    (hm : ∀ q : Fin 256, m (ix4 0 0 0 q) = stM s n (ix4 ⟨g, hg⟩ ⟨c, hc⟩ 0 ⟨256 + q.val, by omega⟩)) (hP : P = slot2 S)
    (hl : ∀ (r : Fin 8) (q : Fin 256), l (ix4 0 0 r q) = stL s n (ix4 ⟨g, hg⟩ ⟨c, hc⟩ r ⟨256 + q.val, by omega⟩))
    (y : (Rect.unit (s := S8x2x8x512) ![g, c, 0, 256] ![1, 1, 8, 256] i4).shape.Idx) :
    k0_pay632 (lanes2 S) m P l y
      = stL s (n + 256) ((Rect.unit ![g, c, 0, 256] ![1, 1, 8, 256] i4).emb y) := by
  obtain ⟨y0, y1, r, q, rfl⟩ : ∃ (y0 : Fin 1) (y1 : Fin 1) (r : Fin 8) (q : Fin 256), y = ix4 y0 y1 r q :=
    ⟨y 0, y 1, y 2, y 3, eq_ix4 y⟩
  obtain rfl : y0 = 0 := Subsingleton.elim _ _
  obtain rfl : y1 = 0 := Subsingleton.elim _ _
  subst hP
  rw [emb4 (a := 8) (b := 512) hg hc i4 r q (by omega), diagL2, hm, hl]
  have e : k0_pay629 (lanes2 S) m (ix2 0 q) = runM (s ⟨g, hg⟩ ⟨c, hc⟩ ⟨256 + q.val, by omega⟩) (n + 256) := by
    rw [diagMax2, hm]
    exact (runM_add h (s ⟨g, hg⟩ ⟨c, hc⟩ ⟨256 + q.val, by omega⟩) _ fun k => hS k q).symm
  rw [e]
  exact runL_add (W := 32) h h8 r (s ⟨g, hg⟩ ⟨c, hc⟩ ⟨256 + q.val, by omega⟩)
    (fun b => S (ix2 ⟨b.val * 8 + r.val, by omega⟩ q)) fun b => hS ⟨b.val * 8 + r.val, by omega⟩ q

theorem partA2 {g c n : ℕ} (hg : g < 8) (hc : c < 2) (h : n + 256 ≤ 8192)
    (s : Fin 8 → Fin 2 → Fin 512 → Fin 8192 → EReal) (v : Fin 8 → Fin 128 → Fin 8192 → EReal)
    (V : FVec Ideal S1x128x256 .bf16)
    (S : FVec Ideal S256x256 .f32) (m : FVec Ideal S1x1x1x256 .f32) (P : FVec Ideal S1x256x256 .f32)
    (a : FVec Ideal S1x1x128x256 .f32) (i4)
    (hV : ∀ (e : Fin 128) (k : Fin 256), V (ix3 0 e k) = v ⟨g, hg⟩ e ⟨n + k.val, by omega⟩)
    (hS : ∀ k q : Fin 256, S (ix2 k q) = s ⟨g, hg⟩ ⟨c, hc⟩ ⟨256 + q.val, by omega⟩ ⟨n + k.val, by omega⟩)
    (hm : ∀ q : Fin 256, m (ix4 0 0 0 q) = stM s n (ix4 ⟨g, hg⟩ ⟨c, hc⟩ 0 ⟨256 + q.val, by omega⟩)) (hP : P = slot2 S)
    (ha : ∀ (e : Fin 128) (q : Fin 256), a (ix4 0 0 e q) = stA s v n (ix4 ⟨g, hg⟩ ⟨c, hc⟩ e ⟨256 + q.val, by omega⟩))
    (y : (Rect.unit (s := S8x2x128x512) ![g, c, 0, 256] ![1, 1, 128, 256] i4).shape.Idx) :
    k0_pay634 (k0_pay633 (lanes2 S) V m P a) y
      = stA s v (n + 256) ((Rect.unit ![g, c, 0, 256] ![1, 1, 128, 256] i4).emb y) := by
  obtain ⟨y0, y1, r, q, rfl⟩ : ∃ (y0 : Fin 1) (y1 : Fin 1) (r : Fin 128) (q : Fin 256), y = ix4 y0 y1 r q :=
    ⟨y 0, y 1, y 2, y 3, eq_ix4 y⟩
  obtain rfl : y0 = 0 := Subsingleton.elim _ _
  obtain rfl : y1 = 0 := Subsingleton.elim _ _
  subst hP
  rw [emb4 (a := 128) (b := 512) hg hc i4 r q (by omega), diagA2, hm, ha]
  have e : k0_pay629 (lanes2 S) m (ix2 0 q) = runM (s ⟨g, hg⟩ ⟨c, hc⟩ ⟨256 + q.val, by omega⟩) (n + 256) := by
    rw [diagMax2, hm]
    exact (runM_add h (s ⟨g, hg⟩ ⟨c, hc⟩ ⟨256 + q.val, by omega⟩) _ fun k => hS k q).symm
  rw [e]
  exact runA_add h (s ⟨g, hg⟩ ⟨c, hc⟩ ⟨256 + q.val, by omega⟩) (v ⟨g, hg⟩ r) (fun k => S (ix2 k q))
    (fun k => V (ix3 0 r k)) (fun k => hS k q) fun k => hV r k

end AttnMath
-- ==== Proof.Mask.lean ====
module

public import proofs.«01_k».proof.Proof.Diag
public import Idealize.ShloMosaic.Lib.WordCmp

@[expose] public section

set_option maxRecDepth 16384
set_option maxHeartbeats 4000000

noncomputable section

namespace AttnMath

open Idealize.ShloMosaic Idealize.SL.Sem Cert.KernelIdeal Cert.KernelIdeal.Gen

/-! # The mask of the diagonal tiles, and the queries as the kernel holds them -/

/-- A row's block of 64, as the kernel computes it in 32-bit words. -/
def blockWord (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem blockWord_eq : ∀ n : Fin 512, blockWord (BitVec.ofNat 32 n.val) = BitVec.ofNat 32 (n.val / 64) := by
  decide +kernel

theorem keys_mask (k : Fin 256) (q : Fin 512) :
    k0_pay426 k0_pay422 k0_pay423 k0_pay424 k0_pay425 (ix2 k q) = BitVec.ofBool (decide (k.val / 64 ≤ q.val / 64)) := by
  unfold k0_pay426 k0_pay422 k0_pay423 k0_pay424 k0_pay425
  pointwise
  refine (congrArg₂ (IntOp.cmpi .sle) (blockWord_eq ⟨k.val, by omega⟩) (blockWord_eq q)).trans ?_
  exact WordCmp.cmpi_sle_ofNat (by omega) (by omega)

theorem select_ofBool {α : Type} (p : Prop) [Decidable p] (x y : α) :
    Scalar.select (BitVec.ofBool (decide p)) x y = if p then x else y := by
  unfold Scalar.select
  by_cases h : p <;> simp [h]

/-- The masked scores of 256 keys against the tile's 512 queries. -/
def maskScore (K : FVec Ideal S256x128 .bf16) (Q : FVec Ideal S1x1x128x512 .bf16) : FVec Ideal S256x512 .f32 :=
  k0_pay431 (k0_pay426 k0_pay422 k0_pay423 k0_pay424 k0_pay425) K Q

/-- The masked scores of 256 keys against the tile's last 256 queries. -/
def maskScore2 (K : FVec Ideal S256x128 .bf16) (Q : FVec Ideal S1x1x128x256 .bf16) : FVec Ideal S256x256 .f32 :=
  k0_pay590 (k0_pay427 k0_pay422 k0_pay423 k0_pay424 k0_pay425) K Q

theorem maskScore_apply (K : FVec Ideal S256x128 .bf16) (Q : FVec Ideal S1x1x128x512 .bf16) (k : Fin 256) (q : Fin 512) :
    maskScore K Q (ix2 k q) = if k.val / 64 ≤ q.val / 64 then ∑ d : Fin 128, K (ix2 k d) * Q (ix4 0 0 d q) else ⊥ := by
  unfold maskScore k0_pay431
  pointwise
  rw [keys_mask, select_ofBool]
  rfl

theorem maskScore2_apply (K : FVec Ideal S256x128 .bf16) (Q : FVec Ideal S1x1x128x256 .bf16) (k q : Fin 256) :
    maskScore2 K Q (ix2 k q) = if k.val / 64 ≤ q.val / 64 then ∑ d : Fin 128, K (ix2 k d) * Q (ix4 0 0 d q) else ⊥ := by
  unfold maskScore2 k0_pay590 k0_pay427
  pointwise
  rw [keys_mask k ⟨q.val, by omega⟩, select_ofBool]
  rfl

/-- The factor the kernel scales its queries by. -/
def cq : EReal := ((Real.log 256)⁻¹ : ℝ)

/-- The kernel's queries, scaled, each half of the features kept for one of the two parts. -/
def qq (X : FVec Ideal S1x1024x512 .f32) : FVec Ideal S8x2x128x512 .bf16 := fun y =>
  if ((y 1).val = 0 ↔ (y 2).val < 64) then
    X (ix3 0 ⟨128 * (y 0).val + (y 2).val, by
      have h0 : (y 0).val < 8 := (y 0).isLt
      have h2 : (y 2).val < 128 := (y 2).isLt
      omega⟩ (y 3)) * cq
  else 0

/-- The features below 64 of a head's queries. -/
def part0 (v : FVec Ideal S1x128x512 .f32) : FVec Ideal S1x1x128x512 .bf16 := k0_pay387 (F := Ideal) (k0_pay386 v)

/-- The features from 64 on. -/
def part1 (v : FVec Ideal S1x128x512 .f32) : FVec Ideal S1x1x128x512 .bf16 :=
  k0_pay413 (F := Ideal) (iota .tc S128x512 32 [0] iota_S128x512_d0_w32) v

theorem part0_apply (v : FVec Ideal S1x128x512 .f32) (d : Fin 128) (q : Fin 512) :
    part0 v (ix4 0 0 d q) = if d.val < 64 then v (ix3 0 d q) * cq else 0 := by
  unfold part0 k0_pay387 k0_pay386 k0_pay384 k0_pay385
  pointwise
  rw [WordCmp.cmpi_slt_ofNat (by omega) (by norm_num), select_ofBool]
  refine if_congr Iff.rfl rfl ?_
  simp [Ideal.ofBits, Ideal.ieee]

theorem part1_apply (v : FVec Ideal S1x128x512 .f32) (d : Fin 128) (q : Fin 512) :
    part1 v (ix4 0 0 d q) = if d.val < 64 then 0 else v (ix3 0 d q) * cq := by
  unfold part1 k0_pay413 k0_pay410 k0_pay411
  pointwise
  rw [WordCmp.cmpi_sge_ofNat (by omega) (by norm_num), select_ofBool]
  by_cases h : d.val < 64
  · rw [if_neg (by omega), if_pos h]
  · rw [if_pos (by omega), if_neg h]
    rfl

/-- The stored piece of head `g`, first part, is a block of the scaled queries; -/
theorem pieceQ0 {g : ℕ} (hg : g < 8) (X : FVec Ideal S1x1024x512 .f32) (v : FVec Ideal S1x128x512 .f32) (i4)
    (hv : ∀ (d : Fin 128) (q : Fin 512), v (ix3 0 d q) = X (ix3 0 ⟨128 * g + d.val, by omega⟩ q))
    (y : (Rect.unit (s := S8x2x128x512) ![g, 0, 0, 0] ![1, 1, 128, 512] i4).shape.Idx) :
    part0 v y = qq X ((Rect.unit ![g, 0, 0, 0] ![1, 1, 128, 512] i4).emb y) := by
  obtain ⟨y0, y1, r, q, rfl⟩ : ∃ (y0 : Fin 1) (y1 : Fin 1) (r : Fin 128) (q : Fin 512), y = ix4 y0 y1 r q :=
    ⟨y 0, y 1, y 2, y 3, eq_ix4 y⟩
  obtain rfl : y0 = 0 := Subsingleton.elim _ _
  obtain rfl : y1 = 0 := Subsingleton.elim _ _
  rw [emb4z (a := 128) (b := 512) hg (by norm_num : 0 < 2) i4 r q, part0_apply, hv]
  unfold qq
  exact if_congr (by simp [ix4]) rfl rfl

/-- and so is the second part's. -/
theorem pieceQ1 {g : ℕ} (hg : g < 8) (X : FVec Ideal S1x1024x512 .f32) (v : FVec Ideal S1x128x512 .f32) (i4)
    (hv : ∀ (d : Fin 128) (q : Fin 512), v (ix3 0 d q) = X (ix3 0 ⟨128 * g + d.val, by omega⟩ q))
    (y : (Rect.unit (s := S8x2x128x512) ![g, 1, 0, 0] ![1, 1, 128, 512] i4).shape.Idx) :
    part1 v y = qq X ((Rect.unit ![g, 1, 0, 0] ![1, 1, 128, 512] i4).emb y) := by
  obtain ⟨y0, y1, r, q, rfl⟩ : ∃ (y0 : Fin 1) (y1 : Fin 1) (r : Fin 128) (q : Fin 512), y = ix4 y0 y1 r q :=
    ⟨y 0, y 1, y 2, y 3, eq_ix4 y⟩
  obtain rfl : y0 = 0 := Subsingleton.elim _ _
  obtain rfl : y1 = 0 := Subsingleton.elim _ _
  rw [emb4z (a := 128) (b := 512) hg (by norm_num : 1 < 2) i4 r q, part1_apply, hv]
  unfold qq
  by_cases h : r.val < 64 <;> simp [ix4, h]

end AttnMath
-- ==== Proof.Scores.lean ====
module

public import proofs.«01_k».proof.Proof.Mask
public import proofs.«01_k».proof.Proof.IdealBody
public import Idealize.ShloMosaic.Lib.Pipeline.FrameBody
public import Idealize.ShloMosaic.Lib.Pipeline.ReadBack

@[expose] public section

set_option maxRecDepth 16384
set_option maxHeartbeats 400000

noncomputable section

namespace AttnMath

open Idealize.ShloMosaic Idealize.ShloMosaic.TcCoe Idealize.ShloMosaic.Tactic
open Idealize.SL.Sem Cert.KernelIdeal Cert.KernelIdeal.Gen Cert.KernelIdeal.Attn

/-! # The masked scores, and the state before the diagonal tiles -/

/-- The score of key `k` against query `q` of query tile `qi`: none (⊥) if the key's block of 64 comes after the query's. -/
def ms (K : FVec Ideal S8192x1024 .bf16) (Q : FVec Ideal S8x2x128x512 .bf16) (qi : ℕ) (g : Fin 8) (c : Fin 2) (q : Fin 512)
    (k : Fin 8192) : EReal :=
  if k.val / 64 ≤ (512 * qi + q.val) / 64 then sc K Q g c q k else ⊥

theorem runM_congr {N n : ℕ} (s s' : Fin N → EReal) (h : ∀ k : Fin N, k.val < n → s k = s' k) : runM s n = runM s' n :=
  Finset.sup_congr rfl fun k hk => h k (by simpa [below] using hk)

theorem runL_congr {N n : ℕ} (r : ℕ) (s s' : Fin N → EReal) (h : ∀ k : Fin N, k.val < n → s k = s' k) : runL s n r = runL s' n r := by
  unfold runL
  rw [runM_congr s s' h]
  refine Finset.sum_congr rfl fun k hk => ?_
  rw [h k (by simp only [belowMod, Finset.mem_filter] at hk; exact hk.2.1)]

theorem runA_congr {N n : ℕ} (s s' v : Fin N → EReal) (h : ∀ k : Fin N, k.val < n → s k = s' k) : runA s v n = runA s' v n := by
  unfold runA
  rw [runM_congr s s' h]
  refine Finset.sum_congr rfl fun k hk => ?_
  rw [h k (by simpa [below] using hk)]

section

variable (K : FVec Ideal S8192x1024 .bf16) (Q : FVec Ideal S8x2x128x512 .bf16) (v : Fin 8 → Fin 128 → Fin 8192 → EReal) (qi : ℕ)

theorem ms_early (g : Fin 8) (c : Fin 2) (q : Fin 512) (k : Fin 8192) (hk : k.val < 512 * qi) :
    sc K Q g c q k = ms K Q qi g c q k := (if_pos (by omega)).symm

theorem stM_ms : stM (sc K Q) (512 * qi) = stM (ms K Q qi) (512 * qi) :=
  funext fun y => runM_congr _ _ fun k hk => ms_early K Q qi _ _ _ k hk

theorem stL_ms : stL (sc K Q) (512 * qi) = stL (ms K Q qi) (512 * qi) :=
  funext fun y => runL_congr _ _ _ fun k hk => ms_early K Q qi _ _ _ k hk

theorem stA_ms : stA (sc K Q) v (512 * qi) = stA (ms K Q qi) v (512 * qi) :=
  funext fun y => runA_congr _ _ _ fun k hk => ms_early K Q qi _ _ _ k hk

end

theorem canon_of_piecesOf {s : Shape} {e : EltTy} {Val : EltTy → Type} [∀ e, Nonempty (Val e)] (G : s.Idx → Val e)
    (L : List (View.Piece Val s e)) (h : View.PiecesOf G L) (y : s.Idx) (hc : ∃ p ∈ L, y ∈ p.1.set) : View.canon L y = G y := by
  have := View.canon_append_of_piecesOf G [] L h y hc
  rwa [List.append_nil] at this

/-- A query block joins the pieces, its payload given by the equation. -/
theorem consQ0 {g : ℕ} (hg : g < 8) (X : FVec Ideal S1x1024x512 .f32) (v : FVec Ideal S1x128x512 .f32) (i4)
    (w : FVec Ideal S1x1x128x512 .bf16) (L : List (View.Piece (Elt Ideal) S8x2x128x512 .bf16)) (hw : w = part0 v)
    (hv : ∀ (d : Fin 128) (q : Fin 512), v (ix3 0 d q) = X (ix3 0 ⟨128 * g + d.val, by omega⟩ q))
    (h : View.PiecesOf (qq X) L) :
    View.PiecesOf (qq X) (⟨Rect.unit (s := S8x2x128x512) ![g, 0, 0, 0] ![1, 1, 128, 512] i4, w⟩ :: L) :=
  ⟨fun y => hw ▸ pieceQ0 hg X v i4 hv y, h⟩

theorem consQ1 {g : ℕ} (hg : g < 8) (X : FVec Ideal S1x1024x512 .f32) (v : FVec Ideal S1x128x512 .f32) (i4)
    (w : FVec Ideal S1x1x128x512 .bf16) (L : List (View.Piece (Elt Ideal) S8x2x128x512 .bf16)) (hw : w = part1 v)
    (hv : ∀ (d : Fin 128) (q : Fin 512), v (ix3 0 d q) = X (ix3 0 ⟨128 * g + d.val, by omega⟩ q))
    (h : View.PiecesOf (qq X) L) :
    View.PiecesOf (qq X) (⟨Rect.unit (s := S8x2x128x512) ![g, 1, 0, 0] ![1, 1, 128, 512] i4, w⟩ :: L) :=
  ⟨fun y => hw ▸ pieceQ1 hg X v i4 hv y, h⟩

/-! ## The rows the diagonal tiles start at, from the kernel's words -/

theorem off_first (i : grid0.Coords) :
    BitVec.toNat (Scalar.indexCast (Scalar.muli (BitVec.ofNat 32 (i 2).val) 512#32)) = 512 * (i 2).val := by
  have e : ∀ x : Fin 16, BitVec.toNat (Scalar.indexCast (Scalar.muli (BitVec.ofNat 32 x.val) 512#32)) = 512 * x.val := by decide
  exact e (i 2)

theorem off_second (i : grid0.Coords) :
    BitVec.toNat (Scalar.indexCast (Scalar.addi (Scalar.muli (BitVec.ofNat 32 (i 2).val) 512#32) 256#32)) = 512 * (i 2).val + 256 := by
  have e : ∀ x : Fin 16, BitVec.toNat (Scalar.indexCast (Scalar.addi (Scalar.muli (BitVec.ofNat 32 x.val) 512#32) 256#32))
      = 512 * x.val + 256 := by decide
  exact e (i 2)

theorem koff1 (i : grid0.Coords) (g : ℕ) (off : Fin 2 → ℕ)
    (h : off = ![BitVec.toNat (Scalar.indexCast (Scalar.muli (BitVec.ofNat 32 (i 2).val) 512#32)), 128 * g]) :
    off = ![512 * (i 2).val, 128 * g] := by
  rw [h, off_first]

theorem voff1 (i : grid0.Coords) (g : ℕ) (off : Fin 3 → ℕ)
    (h : off = ![0, 128 * g, BitVec.toNat (Scalar.indexCast (Scalar.muli (BitVec.ofNat 32 (i 2).val) 512#32))]) :
    off = ![0, 128 * g, 512 * (i 2).val] := by
  rw [h, off_first]

theorem koff2 (i : grid0.Coords) (g : ℕ) (off : Fin 2 → ℕ)
    (h : off = ![BitVec.toNat (Scalar.indexCast (Scalar.addi (Scalar.muli (BitVec.ofNat 32 (i 2).val) 512#32) 256#32)), 128 * g]) :
    off = ![512 * (i 2).val + 256, 128 * g] := by
  rw [h, off_second]

theorem voff2 (i : grid0.Coords) (g : ℕ) (off : Fin 3 → ℕ)
    (h : off = ![0, 128 * g, BitVec.toNat (Scalar.indexCast (Scalar.addi (Scalar.muli (BitVec.ofNat 32 (i 2).val) 512#32) 256#32))]) :
    off = ![0, 128 * g, 512 * (i 2).val + 256] := by
  rw [h, off_second]

section

variable (c : Dev nD) (i : grid0.Coords) (arg3 : Memref sig .tc .vmem S2x64 .f32) (harg3 : arg3.IsWhole) (arg4 : Memref sig .tc .vmem S2x64 .f32) (harg4 : arg4.IsWhole)
  (arg5 : Memref sig .tc .vmem S128x1 .f32) (harg5 : arg5.IsWhole) (arg6 : Memref sig .tc .vmem S8192x1024 .bf16) (harg6 : arg6.IsWhole)
  (arg7 : Memref sig .tc .vmem S1x1024x8192 .bf16) (harg7 : arg7.IsWhole) (arg8 : Memref sig .tc .vmem S1x1024x512 .f32) (harg8 : arg8.IsWhole)
  (arg9 : Memref sig .tc .vmem S512x1024 .bf16) (harg9 : arg9.IsWhole) (arg10 : Memref sig .tc .vmem S8x2x128x512 .bf16) (harg10 : arg10.IsWhole)
  (arg11 : Memref sig .tc .vmem S5x512x512 .f32) (harg11 : arg11.IsWhole) (arg12 : Memref sig .tc .vmem S8x2x1x512 .f32) (harg12 : arg12.IsWhole)
  (arg13 : Memref sig .tc .vmem S8x2x8x512 .f32) (harg13 : arg13.IsWhole) (arg14 : Memref sig .tc .vmem S8x2x128x512 .f32) (harg14 : arg14.IsWhole)
  (x3 : FVec Ideal S8192x1024 .bf16) (x4 : FVec Ideal S1x1024x8192 .bf16) (x5 : FVec Ideal S1x1024x512 .f32)

/-- The query scratch holds the scaled queries. -/
theorem query_state : View.canon (attnRun.sl.HS0_16 (F := Ideal) c arg8 harg8 x5) = qq x5 := by
  have hv : ∀ (g : ℕ) (hg : g < 8) (inb) (d : Fin 128) (q : Fin 512),
      arg8.view.readAt (Elt Ideal) (Rect.unit (s := S1x1024x512) ![0, 128 * g, 0] ![1, 128, 512] inb).toLoadRect (harg8.unread x5)
        (ix3 0 d q) = x5 (ix3 0 ⟨128 * g + d.val, by omega⟩ q) := fun g hg inb d q => by
    refine (congrArg (arg8.view.read (Elt Ideal) (harg8.unread x5)) (emb3 inb d q (by omega) (by omega))).trans ?_
    rw [harg8.read_unread]
    exact congrArg (fun z => x5 (ix3 0 _ z)) (Fin.ext (Nat.zero_add _))
  funext y
  apply canon_of_piecesOf
  · unfold attnRun.sl.HS0_16
    refine consQ1 (g := 7) (by norm_num) x5 _ _ _ _ rfl (hv 7 (by norm_num) (by decide)) ?_
    refine consQ0 (g := 7) (by norm_num) x5 _ _ _ _ rfl (hv 7 (by norm_num) (by decide)) ?_
    refine consQ1 (g := 6) (by norm_num) x5 _ _ _ _ rfl (hv 6 (by norm_num) (by decide)) ?_
    refine consQ0 (g := 6) (by norm_num) x5 _ _ _ _ rfl (hv 6 (by norm_num) (by decide)) ?_
    refine consQ1 (g := 5) (by norm_num) x5 _ _ _ _ rfl (hv 5 (by norm_num) (by decide)) ?_
    refine consQ0 (g := 5) (by norm_num) x5 _ _ _ _ rfl (hv 5 (by norm_num) (by decide)) ?_
    refine consQ1 (g := 4) (by norm_num) x5 _ _ _ _ rfl (hv 4 (by norm_num) (by decide)) ?_
    refine consQ0 (g := 4) (by norm_num) x5 _ _ _ _ rfl (hv 4 (by norm_num) (by decide)) ?_
    refine consQ1 (g := 3) (by norm_num) x5 _ _ _ _ rfl (hv 3 (by norm_num) (by decide)) ?_
    refine consQ0 (g := 3) (by norm_num) x5 _ _ _ _ rfl (hv 3 (by norm_num) (by decide)) ?_
    refine consQ1 (g := 2) (by norm_num) x5 _ _ _ _ rfl (hv 2 (by norm_num) (by decide)) ?_
    refine consQ0 (g := 2) (by norm_num) x5 _ _ _ _ rfl (hv 2 (by norm_num) (by decide)) ?_
    refine consQ1 (g := 1) (by norm_num) x5 _ _ _ _ rfl (hv 1 (by norm_num) (by decide)) ?_
    refine consQ0 (g := 1) (by norm_num) x5 _ _ _ _ rfl (hv 1 (by norm_num) (by decide)) ?_
    refine consQ1 (g := 0) (by norm_num) x5 _ _ _ _ rfl (hv 0 (by norm_num) (by decide)) ?_
    refine consQ0 (g := 0) (by norm_num) x5 _ _ _ _ rfl (hv 0 (by norm_num) (by decide)) ?_
    exact trivial
  · exact View.cover_of_tiled _ ![1, 1, 128, 512] rfl y

/-- What a block of the query scratch reads: the whole width, -/
theorem query_read {g p : ℕ} (hg : g < 8) (hp : p < 2) (inb) (d : Fin 128) (q : Fin 512) :
    arg10.view.readCov (attnRun.sl.HS0_16 (F := Ideal) c arg8 harg8 x5)
        (Rect.unit (s := S8x2x128x512) ![g, p, 0, 0] ![1, 1, 128, 512] inb).toLoadRect (ix4 0 0 d q)
      = qq x5 (ix4 ⟨g, hg⟩ ⟨p, hp⟩ d q) := by
  rw [View.readCov_eq_canon', query_state]
  exact congrArg (qq x5) (emb4z hg hp inb d q)

/-- or the last 256 queries. -/
theorem query_read2 {g p : ℕ} (hg : g < 8) (hp : p < 2) (inb) (d : Fin 128) (q : Fin 256) :
    arg10.view.readCov (attnRun.sl.HS0_16 (F := Ideal) c arg8 harg8 x5)
        (Rect.unit (s := S8x2x128x512) ![g, p, 0, 256] ![1, 1, 128, 256] inb).toLoadRect (ix4 0 0 d q)
      = qq x5 (ix4 ⟨g, hg⟩ ⟨p, hp⟩ d ⟨256 + q.val, by omega⟩) := by
  rw [View.readCov_eq_canon', query_state]
  exact congrArg (qq x5) (emb4 hg hp inb d q (by omega))

theorem key_read {n g : ℕ} (hg : g < 8) (h : n + 256 ≤ 8192) (off : Fin 2 → ℕ) (hoff : off = ![n, 128 * g]) (inb) (k : Fin 256) (d : Fin 128) :
    arg6.view.readAt (Elt Ideal) (Rect.unit (s := S8192x1024) off ![256, 128] inb).toLoadRect (harg6.unread x3) (ix2 k d)
      = x3 (ix2 ⟨n + k.val, by omega⟩ ⟨128 * g + d.val, by omega⟩) := by
  subst hoff
  refine (congrArg (arg6.view.read (Elt Ideal) (harg6.unread x3)) (emb2 inb k d (by omega) (by omega))).trans ?_
  rw [harg6.read_unread]

theorem value_read {n g : ℕ} (hg : g < 8) (h : n + 256 ≤ 8192) (off : Fin 3 → ℕ) (hoff : off = ![0, 128 * g, n]) (inb) (e : Fin 128) (k : Fin 256) :
    arg7.view.readAt (Elt Ideal) (Rect.unit (s := S1x1024x8192) off ![1, 128, 256] inb).toLoadRect (harg7.unread x4) (ix3 0 e k)
      = vv x4 ⟨g, hg⟩ e ⟨n + k.val, by omega⟩ := by
  subst hoff
  refine (congrArg (arg7.view.read (Elt Ideal) (harg7.unread x4)) (emb3 inb e k (by omega) (by omega))).trans ?_
  rw [harg7.read_unread]
  rfl

/-- The first diagonal tile's scores. -/
theorem score_first {qi g p : ℕ} (hg : g < 8) (hp : p < 2) (h : 512 * qi + 256 ≤ 8192) (off : Fin 2 → ℕ)
    (hoff : off = ![512 * qi, 128 * g]) (iK iQ) (k : Fin 256) (q : Fin 512) :
    maskScore (arg6.view.readAt (Elt Ideal) (Rect.unit (s := S8192x1024) off ![256, 128] iK).toLoadRect (harg6.unread x3))
        (arg10.view.readCov (attnRun.sl.HS0_16 (F := Ideal) c arg8 harg8 x5)
          (Rect.unit (s := S8x2x128x512) ![g, p, 0, 0] ![1, 1, 128, 512] iQ).toLoadRect) (ix2 k q)
      = ms x3 (qq x5) qi ⟨g, hg⟩ ⟨p, hp⟩ q ⟨512 * qi + k.val, by omega⟩ := by
  rw [maskScore_apply]
  unfold ms sc
  refine if_congr ?_ (Finset.sum_congr rfl fun d _ => congrArg₂ (· * ·)
    (key_read arg6 harg6 x3 hg h off hoff iK k d) (query_read c arg8 harg8 arg10 x5 hg hp iQ d q)) rfl
  have e1 : (512 * qi + k.val) / 64 = 8 * qi + k.val / 64 := by omega
  have e2 : (512 * qi + q.val) / 64 = 8 * qi + q.val / 64 := by omega
  show _ ↔ (512 * qi + k.val) / 64 ≤ _
  rw [e1, e2]
  omega

/-- The second diagonal tile's scores. -/
theorem score_second {qi g p : ℕ} (hg : g < 8) (hp : p < 2) (h : 512 * qi + 256 + 256 ≤ 8192) (off : Fin 2 → ℕ)
    (hoff : off = ![512 * qi + 256, 128 * g]) (iK iQ) (k q : Fin 256) :
    maskScore2 (arg6.view.readAt (Elt Ideal) (Rect.unit (s := S8192x1024) off ![256, 128] iK).toLoadRect (harg6.unread x3))
        (arg10.view.readCov (attnRun.sl.HS0_16 (F := Ideal) c arg8 harg8 x5)
          (Rect.unit (s := S8x2x128x512) ![g, p, 0, 256] ![1, 1, 128, 256] iQ).toLoadRect) (ix2 k q)
      = ms x3 (qq x5) qi ⟨g, hg⟩ ⟨p, hp⟩ ⟨256 + q.val, by omega⟩ ⟨512 * qi + 256 + k.val, by omega⟩ := by
  rw [maskScore2_apply]
  unfold ms sc
  refine if_congr ?_ (Finset.sum_congr rfl fun d _ => congrArg₂ (· * ·)
    (key_read arg6 harg6 x3 hg h off hoff iK k d) (query_read2 c arg8 harg8 arg10 x5 hg hp iQ d q)) rfl
  have e1 : (512 * qi + 256 + k.val) / 64 = 8 * qi + 4 + k.val / 64 := by omega
  have e2 : (512 * qi + (256 + q.val)) / 64 = 8 * qi + 4 + q.val / 64 := by omega
  show _ ↔ (512 * qi + 256 + k.val) / 64 ≤ (512 * qi + (256 + q.val)) / 64
  rw [e1, e2]
  omega

/-- The state after the loop over the earlier tiles, as the diagonal tiles find it. -/
theorem base :
    View.canon (attnRun.sl.HS2_1_1 (F := Ideal) c i arg3 harg3 arg4 harg4 arg5 harg5 arg6 harg6 arg7 harg7 arg8 harg8 arg9 harg9 arg10 harg10 arg11 harg11 arg12 harg12 arg13 harg13 arg14 harg14 x3 x4 x5).tail = stM (ms x3 (qq x5) (i 2).val) (512 * (i 2).val)
    ∧ View.canon (attnRun.sl.HS3_1_1 (F := Ideal) c i arg3 harg3 arg4 harg4 arg5 harg5 arg6 harg6 arg7 harg7 arg8 harg8 arg9 harg9 arg10 harg10 arg11 harg11 arg12 harg12 arg13 harg13 arg14 harg14 x3 x4 x5).tail = stL (ms x3 (qq x5) (i 2).val) (512 * (i 2).val)
    ∧ View.canon (attnRun.sl.HS4_1_1 (F := Ideal) c i arg3 harg3 arg4 harg4 arg5 harg5 arg6 harg6 arg7 harg7 arg8 harg8 arg9 harg9 arg10 harg10 arg11 harg11 arg12 harg12 arg13 harg13 arg14 harg14 x3 x4 x5).tail
        = stA (ms x3 (qq x5) (i 2).val) (vv x4) (512 * (i 2).val) := by
  have h12 : arg12.view.read (Elt Ideal) (arg12.view.writes (Elt Ideal) arg12.view.junk attnRun.sl.HS2_1)
      = stM (sc (arg6.view.read (Elt Ideal) (harg6.unread x3)) (arg10.view.read (Elt Ideal)
          (arg10.view.writes (Elt Ideal) arg10.view.junk (attnRun.sl.HS0_16 c arg8 harg8 x5)))) 0 := by
    rw [View.read_writes_junk_eq_canon]
    funext y
    refine canon_of_piecesOf _ (attnRun.sl.HS2_1 (F := Ideal)) ?_ y (View.cover_of_tiled _ ![8, 2, 1, 512] rfl y)
    unfold attnRun.sl.HS2_1
    refine ⟨fun x => ?_, trivial⟩
    exact (runM_zero _).symm
  have h13 : arg13.view.read (Elt Ideal) (arg13.view.writes (Elt Ideal) arg13.view.junk attnRun.sl.HS3_1)
      = stL (sc (arg6.view.read (Elt Ideal) (harg6.unread x3)) (arg10.view.read (Elt Ideal)
          (arg10.view.writes (Elt Ideal) arg10.view.junk (attnRun.sl.HS0_16 c arg8 harg8 x5)))) 0 := by
    rw [View.read_writes_junk_eq_canon]
    funext y
    refine canon_of_piecesOf _ (attnRun.sl.HS3_1 (F := Ideal)) ?_ y (View.cover_of_tiled _ ![8, 2, 8, 512] rfl y)
    unfold attnRun.sl.HS3_1
    refine ⟨fun x => ?_, trivial⟩
    refine Eq.trans ?_ (runL_zero _ _).symm
    show Ideal.ofBits .f32 0x00000000#32 = 0
    simp [Ideal.ofBits, Ideal.ieee]
  have h14 : arg14.view.read (Elt Ideal) (arg14.view.writes (Elt Ideal) arg14.view.junk attnRun.sl.HS4_1)
      = stA (sc (arg6.view.read (Elt Ideal) (harg6.unread x3)) (arg10.view.read (Elt Ideal)
          (arg10.view.writes (Elt Ideal) arg10.view.junk (attnRun.sl.HS0_16 c arg8 harg8 x5))))
          (vv (arg7.view.read (Elt Ideal) (harg7.unread x4))) 0 := by
    rw [View.read_writes_junk_eq_canon]
    funext y
    refine canon_of_piecesOf _ (attnRun.sl.HS4_1 (F := Ideal)) ?_ y (View.cover_of_tiled _ ![8, 2, 128, 512] rfl y)
    unfold attnRun.sl.HS4_1
    refine ⟨fun x => ?_, trivial⟩
    refine Eq.trans ?_ (runA_zero _ _).symm
    show Ideal.ofBits .f32 0x00000000#32 = 0
    simp [Ideal.ofBits, Ideal.ieee]
  have hq : arg10.view.read (Elt Ideal) (arg10.view.writes (Elt Ideal) arg10.view.junk (attnRun.sl.HS0_16 c arg8 harg8 x5)) = qq x5 := by
    rw [View.read_writes_junk_eq_canon, query_state]
  obtain ⟨h1, h2, h3⟩ := loop_state Variants.none c none i arg3 harg3 arg4 harg4 arg5 harg5 arg6 harg6 arg7 harg7 arg8 harg8 arg9 harg9 arg10 harg10 arg11 harg11 arg12 harg12 arg13 harg13 arg14 harg14
    (BitVec.ofNat 32 (i 2).val) k0_pay415 (harg6.unread x3) (harg7.unread x4)
    (arg10.view.writes (Elt Ideal) arg10.view.junk (attnRun.sl.HS0_16 c arg8 harg8 x5)) arg11.view.junk _ _ _ h12 h13 h14 (k0_t1_loop i).trips le_rfl
  rw [hq, harg6.read_unread, trips_eq] at h1 h2 h3
  rw [harg7.read_unread] at h3
  rw [stM_ms, ← View.writes_append, View.read_writes_junk_eq_canon, ← trips_eq] at h1
  rw [stL_ms, ← View.writes_append, View.read_writes_junk_eq_canon, ← trips_eq] at h2
  rw [stA_ms, ← View.writes_append, View.read_writes_junk_eq_canon, ← trips_eq] at h3
  rw [← trips_eq]
  unfold attnRun.sl.HS2_1_1 attnRun.sl.HS3_1_1 attnRun.sl.HS4_1_1
  simp only [List.tail_cons]
  have ht : Scf.trips (0#32) (Scalar.addi (0#32) (Scalar.muli (Scalar.divsi (Scalar.subi (BitVec.ofNat 32 (i 2).val) 0#32) 1#32) 1#32))
      1#32 = (i 2).val := trips_eq i
  rw [trips_eq] at h1 h2 h3 ⊢
  rw [ht]
  exact ⟨h1, h2, h3⟩

end

end AttnMath
-- ==== Proof.Unit.lean ====
module

public import proofs.«01_k».proof.Proof.Scores
public import proofs.«01_k».proof.Proof.Diag

@[expose] public section

set_option maxRecDepth 16384
set_option maxHeartbeats 400000

noncomputable section

namespace AttnMath

open Idealize.ShloMosaic Idealize.ShloMosaic.TcCoe Idealize.ShloMosaic.Tactic
open Idealize.SL.Sem Cert.KernelIdeal Cert.KernelIdeal.Gen Cert.KernelIdeal.Attn

/-! # One diagonal unit: the scratch state before and after it -/

/-- Units below `u` hold the new state, the others the old one. -/
def Upto {s : Shape} {e : EltTy} (key : s.Idx → ℕ) (L : List (View.Piece (Elt Ideal) s e)) (u : ℕ) (G0 G1 : s.Idx → Elt Ideal e) : Prop :=
  ∀ y, View.canon L y = if key y < u then G1 y else G0 y

theorem upto_zero {s : Shape} {e : EltTy} (key : s.Idx → ℕ) (L : List (View.Piece (Elt Ideal) s e)) (G0 G1 : s.Idx → Elt Ideal e)
    (h : View.canon L = G0) : Upto key L 0 G0 G1 := fun y => by
  rw [h, if_neg (Nat.not_lt_zero _)]

theorem upto_all {s : Shape} {e : EltTy} (key : s.Idx → ℕ) (L : List (View.Piece (Elt Ideal) s e)) (u : ℕ) (G0 G1 : s.Idx → Elt Ideal e)
    (h : Upto key L u G0 G1) (hk : ∀ y, key y < u) : View.canon L = G1 := funext fun y => by
  rw [h y, if_pos (hk y)]

theorem upto_step {s : Shape} {e : EltTy} (key : s.Idx → ℕ) (L : List (View.Piece (Elt Ideal) s e)) (u : ℕ) (G0 G1 : s.Idx → Elt Ideal e)
    (h : Upto key L u G0 G1) (r : Rect s) (w : r.shape.Idx → Elt Ideal e) (hin : ∀ x, key (r.emb x) = u)
    (hw : ∀ x, w x = G1 (r.emb x)) (hout : ∀ y, key y = u → (∃ x, r.emb x = y) ∨ G1 y = G0 y) :
    Upto key (⟨r, w⟩ :: L) (u + 1) G0 G1 := fun y => by
  by_cases hy : ∃ x, r.emb x = y
  · obtain ⟨x, rfl⟩ := hy
    rw [View.canon_cons_emb, hin x, if_pos (Nat.lt_succ_self u), hw x]
  · have hn : y ∉ r.set := fun hm => hy (by
      rw [← Rect.map_emb_univ, Finset.mem_map] at hm
      obtain ⟨x, -, hx⟩ := hm
      exact ⟨x, hx⟩)
    rw [View.canon_cons_of_not_mem ⟨r, w⟩ L hn, h y]
    rcases Nat.lt_trichotomy (key y) u with hlt | heq | hgt
    · rw [if_pos hlt, if_pos (by omega)]
    · rw [if_neg (by omega), if_pos (by omega)]
      rcases hout y heq with hx | hx
      · exact absurd hx hy
      · exact hx.symm
    · rw [if_neg (by omega), if_neg (by omega)]

theorem upto_read {sig' : RefSig} {κ : Kind} {sp : Space} {s : Shape} {e : EltTy} (key : s.Idx → ℕ) (L : List (View.Piece (Elt Ideal) s e)) (u : ℕ) (G0 G1 : s.Idx → Elt Ideal e)
    (h : Upto key L u G0 G1) (v : View sig' κ sp s e) (r : Rect s) (x : r.shape.Idx) (hin : key (r.emb x) = u) :
    v.readCov L r.toLoadRect x = G0 (r.emb x) := by
  rw [View.readCov_eq_canon']
  show View.canon L (r.emb x) = _
  rw [h, hin, if_neg (lt_irrefl u)]

/-- The number of the unit an entry of a state belongs to. -/
def unitOf {a b : ℕ} (y : (⟨4, ![8, 2, a, b]⟩ : Shape).Idx) : ℕ := 2 * (y 0).val + (y 1).val

theorem unitOf_lt {a b : ℕ} (y : (⟨4, ![8, 2, a, b]⟩ : Shape).Idx) : unitOf y < 16 := by
  have h0 : (y 0).val < 8 := (y 0).isLt
  have h1 : (y 1).val < 2 := (y 1).isLt
  unfold unitOf
  omega

theorem eq_of_unitOf {a b g p : ℕ} (hg : g < 8) (hp : p < 2) (y : (⟨4, ![8, 2, a, b]⟩ : Shape).Idx) (h : unitOf y = 2 * g + p) :
    y = ix4 (⟨g, hg⟩ : Fin 8) (⟨p, hp⟩ : Fin 2) (y 2 : Fin a) (y 3 : Fin b) := by
  have h0 : (y 0).val < 8 := (y 0).isLt
  have h1 : (y 1).val < 2 := (y 1).isLt
  unfold unitOf at h
  have e0 : y 0 = (⟨g, hg⟩ : Fin 8) := Fin.ext (show (y 0).val = g by omega)
  have e1 : y 1 = (⟨p, hp⟩ : Fin 2) := Fin.ext (show (y 1).val = p by omega)
  rw [← e0, ← e1]
  exact eq_ix4 y

theorem split4 {a b w o g p : ℕ} (inb) (x : (Rect.unit (s := ⟨4, ![8, 2, a, b]⟩) ![g, p, 0, o] ![1, 1, a, w] inb).shape.Idx) :
    ∃ (r : Fin a) (q : Fin w), x = ix4 (0 : Fin 1) (0 : Fin 1) r q :=
  ⟨x 2, x 3, (eq_ix4 x).trans (congrArg₂ (fun z z' => ix4 z z' (x 2 : Fin a) (x 3 : Fin w))
    (@Subsingleton.elim (Fin 1) _ (x 0) 0) (@Subsingleton.elim (Fin 1) _ (x 1) 0))⟩

theorem unit_in {a b w o g p : ℕ} (hg : g < 8) (hp : p < 2) (ho : o + w ≤ b) (inb)
    (x : (Rect.unit (s := ⟨4, ![8, 2, a, b]⟩) ![g, p, 0, o] ![1, 1, a, w] inb).shape.Idx) :
    unitOf ((Rect.unit (s := ⟨4, ![8, 2, a, b]⟩) ![g, p, 0, o] ![1, 1, a, w] inb).emb x) = 2 * g + p := by
  obtain ⟨r, q, rfl⟩ := split4 inb x
  rw [emb4 hg hp inb r q (by omega)]
  rfl

theorem unit_out {a b g p : ℕ} (hg : g < 8) (hp : p < 2) (inb) (y : (⟨4, ![8, 2, a, b]⟩ : Shape).Idx) (h : unitOf y = 2 * g + p) :
    ∃ x, (Rect.unit (s := ⟨4, ![8, 2, a, b]⟩) ![g, p, 0, 0] ![1, 1, a, b] inb).emb x = y :=
  ⟨ix4 (0 : Fin 1) (0 : Fin 1) (y 2 : Fin a) (y 3 : Fin b),
    (emb4z hg hp inb (y 2 : Fin a) (y 3 : Fin b)).trans (eq_of_unitOf hg hp y h).symm⟩

theorem unit_out2 {a g p : ℕ} (hg : g < 8) (hp : p < 2) (inb) (y : (⟨4, ![8, 2, a, 512]⟩ : Shape).Idx) (h : unitOf y = 2 * g + p)
    (hq : 256 ≤ (y 3).val) :
    ∃ x, (Rect.unit (s := ⟨4, ![8, 2, a, 512]⟩) ![g, p, 0, 256] ![1, 1, a, 256] inb).emb x = y := by
  have h3 : (y 3).val < 512 := (y 3).isLt
  refine ⟨ix4 (0 : Fin 1) (0 : Fin 1) (y 2 : Fin a) (⟨(y 3).val - 256, by omega⟩ : Fin 256), ?_⟩
  refine (emb4 hg hp inb (y 2 : Fin a) (⟨(y 3).val - 256, by omega⟩ : Fin 256) (show 256 + ((y 3).val - 256) < 512 by omega)).trans ?_
  refine Eq.trans ?_ (eq_of_unitOf hg hp y h).symm
  refine congrArg (ix4 _ _ _) (Fin.ext ?_)
  show 256 + ((y 3).val - 256) = (y 3).val
  omega

theorem inb4 {a b w o g p : ℕ} (hg : g < 8) (hp : p < 2) (ho : o + w ≤ b) :
    ∀ x : Fin 4, (![g, p, 0, o] : Fin 4 → ℕ) x + (![1, 1, a, w] : Fin 4 → ℕ) x ≤ (![8, 2, a, b] : Fin 4 → ℕ) x := by
  intro x
  fin_cases x <;> simp <;> omega

theorem kinb {n g : ℕ} (hg : g < 8) (h : n + 256 ≤ 8192) {off : Fin 2 → ℕ} (hoff : off = ![n, 128 * g]) :
    ∀ x : Fin 2, off x + (![256, 128] : Fin 2 → ℕ) x ≤ (![8192, 1024] : Fin 2 → ℕ) x := by
  subst hoff
  intro x
  fin_cases x <;> simp <;> omega

theorem vinb {n g : ℕ} (hg : g < 8) (h : n + 256 ≤ 8192) {off : Fin 3 → ℕ} (hoff : off = ![0, 128 * g, n]) :
    ∀ x : Fin 3, off x + (![1, 128, 256] : Fin 3 → ℕ) x ≤ (![1, 1024, 8192] : Fin 3 → ℕ) x := by
  subst hoff
  intro x
  fin_cases x <;> simp <;> omega

/-- A state after both diagonal tiles: the first 256 queries have met 256 keys more, the others 512. -/
def late {a : ℕ} (G0 G1 : (⟨4, ![8, 2, a, 512]⟩ : Shape).Idx → EReal) : (⟨4, ![8, 2, a, 512]⟩ : Shape).Idx → EReal :=
  fun y => if (y 3).val < 256 then G0 y else G1 y

theorem late_emb {a g p : ℕ} (hg : g < 8) (hp : p < 2) (G0 G1 : (⟨4, ![8, 2, a, 512]⟩ : Shape).Idx → EReal) (inb)
    (x : (Rect.unit (s := ⟨4, ![8, 2, a, 512]⟩) ![g, p, 0, 256] ![1, 1, a, 256] inb).shape.Idx) :
    late G0 G1 ((Rect.unit (s := ⟨4, ![8, 2, a, 512]⟩) ![g, p, 0, 256] ![1, 1, a, 256] inb).emb x)
      = G1 ((Rect.unit (s := ⟨4, ![8, 2, a, 512]⟩) ![g, p, 0, 256] ![1, 1, a, 256] inb).emb x) := by
  obtain ⟨r, q, rfl⟩ := split4 inb x
  rw [emb4 hg hp inb r q (by omega)]
  exact if_neg (show ¬ 256 + q.val < 256 by omega)

theorem late_out {a g p : ℕ} (hg : g < 8) (hp : p < 2) (G0 G1 : (⟨4, ![8, 2, a, 512]⟩ : Shape).Idx → EReal) (inb)
    (y : (⟨4, ![8, 2, a, 512]⟩ : Shape).Idx) (h : unitOf y = 2 * g + p) :
    (∃ x, (Rect.unit (s := ⟨4, ![8, 2, a, 512]⟩) ![g, p, 0, 256] ![1, 1, a, 256] inb).emb x = y) ∨ late G0 G1 y = G0 y := by
  by_cases hq : (y 3).val < 256
  · exact Or.inr (if_pos hq)
  · exact Or.inl (unit_out2 hg hp inb y h (by omega))

/-- The state while the first diagonal tile is folded in: units below `u` done. -/
structure Pass1 (s : Fin 8 → Fin 2 → Fin 512 → Fin 8192 → EReal) (v : Fin 8 → Fin 128 → Fin 8192 → EReal) (n u : ℕ)
    (LM : List (View.Piece (Elt Ideal) S8x2x1x512 .f32)) (LL : List (View.Piece (Elt Ideal) S8x2x8x512 .f32))
    (LA : List (View.Piece (Elt Ideal) S8x2x128x512 .f32)) : Prop where
  m : Upto (e := .f32) unitOf LM u (stM s n) (stM s (n + 256))
  l : Upto (e := .f32) unitOf LL u (stL s n) (stL s (n + 256))
  a : Upto (e := .f32) unitOf LA u (stA s v n) (stA s v (n + 256))

/-- The same for the second diagonal tile, which only the last 256 queries meet. -/
structure Pass2 (s : Fin 8 → Fin 2 → Fin 512 → Fin 8192 → EReal) (v : Fin 8 → Fin 128 → Fin 8192 → EReal) (n u : ℕ)
    (LM : List (View.Piece (Elt Ideal) S8x2x1x512 .f32)) (LL : List (View.Piece (Elt Ideal) S8x2x8x512 .f32))
    (LA : List (View.Piece (Elt Ideal) S8x2x128x512 .f32)) : Prop where
  m : Upto (e := .f32) unitOf LM u (stM s n) (late (stM s n) (stM s (n + 256)))
  l : Upto (e := .f32) unitOf LL u (stL s n) (late (stL s n) (stL s (n + 256)))
  a : Upto (e := .f32) unitOf LA u (stA s v n) (late (stA s v n) (stA s v (n + 256)))

section

variable (c : Dev nD) (i : grid0.Coords) (arg3 : Memref sig .tc .vmem S2x64 .f32) (harg3 : arg3.IsWhole) (arg4 : Memref sig .tc .vmem S2x64 .f32) (harg4 : arg4.IsWhole)
  (arg5 : Memref sig .tc .vmem S128x1 .f32) (harg5 : arg5.IsWhole) (arg6 : Memref sig .tc .vmem S8192x1024 .bf16) (harg6 : arg6.IsWhole)
  (arg7 : Memref sig .tc .vmem S1x1024x8192 .bf16) (harg7 : arg7.IsWhole) (arg8 : Memref sig .tc .vmem S1x1024x512 .f32) (harg8 : arg8.IsWhole)
  (arg9 : Memref sig .tc .vmem S512x1024 .bf16) (harg9 : arg9.IsWhole) (arg10 : Memref sig .tc .vmem S8x2x128x512 .bf16) (harg10 : arg10.IsWhole)
  (arg11 : Memref sig .tc .vmem S5x512x512 .f32) (harg11 : arg11.IsWhole) (arg12 : Memref sig .tc .vmem S8x2x1x512 .f32) (harg12 : arg12.IsWhole)
  (arg13 : Memref sig .tc .vmem S8x2x8x512 .f32) (harg13 : arg13.IsWhole) (arg14 : Memref sig .tc .vmem S8x2x128x512 .f32) (harg14 : arg14.IsWhole)
  (x3 : FVec Ideal S8192x1024 .bf16) (x4 : FVec Ideal S1x1024x8192 .bf16) (x5 : FVec Ideal S1x1024x512 .f32)

/-- The first diagonal tile's masked scores of a unit. -/
abbrev S1of (off : Fin 2 → ℕ) (g p n : ℕ) (hg : g < 8) (hp : p < 2) (h : n + 256 ≤ 8192) (hoff : off = ![n, 128 * g]) :
    FVec Ideal S256x512 .f32 :=
  maskScore (arg6.view.readAt (Elt Ideal) (Rect.unit (s := S8192x1024) off S256x128.size (kinb hg h hoff)).toLoadRect (harg6.unread x3))
    (arg10.view.readCov (attnRun.sl.HS0_16 (F := Ideal) c arg8 harg8 x5)
      (Rect.unit (s := S8x2x128x512) ![g, p, 0, 0] S1x1x128x512.size (inb4 hg hp (by omega))).toLoadRect)

/-- The second diagonal tile's masked scores of a unit. -/
abbrev S2of (off : Fin 2 → ℕ) (g p n : ℕ) (hg : g < 8) (hp : p < 2) (h : n + 256 ≤ 8192) (hoff : off = ![n, 128 * g]) :
    FVec Ideal S256x256 .f32 :=
  maskScore2 (arg6.view.readAt (Elt Ideal) (Rect.unit (s := S8192x1024) off S256x128.size (kinb hg h hoff)).toLoadRect (harg6.unread x3))
    (arg10.view.readCov (attnRun.sl.HS0_16 (F := Ideal) c arg8 harg8 x5)
      (Rect.unit (s := S8x2x128x512) ![g, p, 0, 256] S1x1x128x256.size (inb4 hg hp (by omega))).toLoadRect)

theorem unit1 {qi u : ℕ} (g p : ℕ) (hg : g < 8) (hp : p < 2) (hu : u = 2 * g + p) (h : 512 * qi + 256 ≤ 8192)
    {LM : List (View.Piece (Elt Ideal) S8x2x1x512 .f32)} {LL : List (View.Piece (Elt Ideal) S8x2x8x512 .f32)}
    {LA : List (View.Piece (Elt Ideal) S8x2x128x512 .f32)}
    (st : Pass1 (ms x3 (qq x5) qi) (vv x4) (512 * qi) u LM LL LA)
    (off : Fin 2 → ℕ) (hoff : off = ![512 * qi, 128 * g]) (offv : Fin 3 → ℕ) (hoffv : offv = ![0, 128 * g, 512 * qi])
    (P : FVec Ideal S1x256x512 .f32) (hP : P = slot' (S1of c arg6 harg6 arg8 harg8 arg10 x3 x5 off g p (512 * qi) hg hp h hoff))
    (wM : FVec Ideal S1x1x1x512 .f32) (wL : FVec Ideal S1x1x8x512 .f32) (wA : FVec Ideal S1x1x128x512 .f32)
    (hM : wM = k0_pay449 (k0_pay443 (lanes' (S1of c arg6 harg6 arg8 harg8 arg10 x3 x5 off g p (512 * qi) hg hp h hoff))
      (arg12.view.readCov LM (Rect.unit (s := S8x2x1x512) ![g, p, 0, 0] S1x1x1x512.size (inb4 hg hp (by omega))).toLoadRect)))
    (hL : wL = k0_pay447 (k0_pay446 (lanes' (S1of c arg6 harg6 arg8 harg8 arg10 x3 x5 off g p (512 * qi) hg hp h hoff))
      (arg12.view.readCov LM (Rect.unit (s := S8x2x1x512) ![g, p, 0, 0] S1x1x1x512.size (inb4 hg hp (by omega))).toLoadRect) P
      (arg13.view.readCov LL (Rect.unit (s := S8x2x8x512) ![g, p, 0, 0] S1x1x8x512.size (inb4 hg hp (by omega))).toLoadRect)))
    (hA : wA = k0_pay448
      (k0_pay441 (arg7.view.readAt (Elt Ideal) (Rect.unit (s := S1x1024x8192) offv S1x128x256.size (vinb hg h hoffv)).toLoadRect (harg7.unread x4)))
      (k0_pay444 (lanes' (S1of c arg6 harg6 arg8 harg8 arg10 x3 x5 off g p (512 * qi) hg hp h hoff))
        (arg12.view.readCov LM (Rect.unit (s := S8x2x1x512) ![g, p, 0, 0] S1x1x1x512.size (inb4 hg hp (by omega))).toLoadRect))
      (k0_pay445 (lanes' (S1of c arg6 harg6 arg8 harg8 arg10 x3 x5 off g p (512 * qi) hg hp h hoff))
        (arg12.view.readCov LM (Rect.unit (s := S8x2x1x512) ![g, p, 0, 0] S1x1x1x512.size (inb4 hg hp (by omega))).toLoadRect) P)
      (arg14.view.readCov LA (Rect.unit (s := S8x2x128x512) ![g, p, 0, 0] S1x1x128x512.size (inb4 hg hp (by omega))).toLoadRect)) :
    Pass1 (ms x3 (qq x5) qi) (vv x4) (512 * qi) (u + 1)
      (⟨Rect.unit (s := S8x2x1x512) ![g, p, 0, 0] S1x1x1x512.size (inb4 hg hp (by omega)), wM⟩ :: LM)
      (⟨Rect.unit (s := S8x2x8x512) ![g, p, 0, 0] S1x1x8x512.size (inb4 hg hp (by omega)), wL⟩ :: LL)
      (⟨Rect.unit (s := S8x2x128x512) ![g, p, 0, 0] S1x1x128x512.size (inb4 hg hp (by omega)), wA⟩ :: LA) := by
  subst hu
  have hS := fun k q => score_first c arg6 harg6 arg8 harg8 arg10 x3 x5 hg hp h off hoff (kinb hg h hoff) (inb4 hg hp (by omega)) k q
  have hm : ∀ q : Fin 512, arg12.view.readCov LM (Rect.unit (s := S8x2x1x512) ![g, p, 0, 0] S1x1x1x512.size (inb4 hg hp (by omega))).toLoadRect
      (ix4 0 0 0 q) = stM (ms x3 (qq x5) qi) (512 * qi) (ix4 ⟨g, hg⟩ ⟨p, hp⟩ 0 q) := fun q =>
    (upto_read unitOf LM _ _ _ st.m arg12.view _ _ (unit_in hg hp (by omega) _ _)).trans
      (congrArg (stM (ms x3 (qq x5) qi) (512 * qi)) (emb4z hg hp _ 0 q))
  have hl : ∀ (r : Fin 8) (q : Fin 512), arg13.view.readCov LL (Rect.unit (s := S8x2x8x512) ![g, p, 0, 0] S1x1x8x512.size (inb4 hg hp (by omega))).toLoadRect
      (ix4 0 0 r q) = stL (ms x3 (qq x5) qi) (512 * qi) (ix4 ⟨g, hg⟩ ⟨p, hp⟩ r q) := fun r q =>
    (upto_read unitOf LL _ _ _ st.l arg13.view _ _ (unit_in hg hp (by omega) _ _)).trans
      (congrArg (stL (ms x3 (qq x5) qi) (512 * qi)) (emb4z hg hp _ r q))
  have ha : ∀ (e : Fin 128) (q : Fin 512), arg14.view.readCov LA (Rect.unit (s := S8x2x128x512) ![g, p, 0, 0] S1x1x128x512.size (inb4 hg hp (by omega))).toLoadRect
      (ix4 0 0 e q) = stA (ms x3 (qq x5) qi) (vv x4) (512 * qi) (ix4 ⟨g, hg⟩ ⟨p, hp⟩ e q) := fun e q =>
    (upto_read unitOf LA _ _ _ st.a arg14.view _ _ (unit_in hg hp (by omega) _ _)).trans
      (congrArg (stA (ms x3 (qq x5) qi) (vv x4) (512 * qi)) (emb4z hg hp _ e q))
  have hv : ∀ (e : Fin 128) (k : Fin 256), k0_pay441 (F := Ideal)
      (arg7.view.readAt (Elt Ideal) (Rect.unit (s := S1x1024x8192) offv S1x128x256.size (vinb hg h hoffv)).toLoadRect (harg7.unread x4))
      (ix2 e k) = vv x4 ⟨g, hg⟩ e ⟨512 * qi + k.val, by omega⟩ := fun e k => by
    rw [← value_read arg7 harg7 x4 hg h offv hoffv (vinb hg h hoffv) e k]
    unfold k0_pay441
    pointwise
  refine ⟨?_, ?_, ?_⟩
  · exact upto_step unitOf LM _ _ _ st.m _ _ (unit_in hg hp (by omega) _)
      (fun x => (congrFun hM x).trans (partM hg hp h (ms x3 (qq x5) qi) _ _ _ hS hm x))
      (fun y hy => Or.inl (unit_out hg hp _ y hy))
  · exact upto_step unitOf LL _ _ _ st.l _ _ (unit_in hg hp (by omega) _)
      (fun x => (congrFun hL x).trans (partL hg hp h (by omega) (ms x3 (qq x5) qi) _ _ _ _ _ hS hm hP hl x))
      (fun y hy => Or.inl (unit_out hg hp _ y hy))
  · exact upto_step unitOf LA _ _ _ st.a _ _ (unit_in hg hp (by omega) _)
      (fun x => (congrFun hA x).trans (partA hg hp h (ms x3 (qq x5) qi) (vv x4) _ _ _ _ _ _ hv hS hm hP ha x))
      (fun y hy => Or.inl (unit_out hg hp _ y hy))

theorem unit2 {qi u : ℕ} (g p : ℕ) (hg : g < 8) (hp : p < 2) (hu : u = 2 * g + p) (h : 512 * qi + 256 + 256 ≤ 8192)
    {LM : List (View.Piece (Elt Ideal) S8x2x1x512 .f32)} {LL : List (View.Piece (Elt Ideal) S8x2x8x512 .f32)}
    {LA : List (View.Piece (Elt Ideal) S8x2x128x512 .f32)}
    (st : Pass2 (ms x3 (qq x5) qi) (vv x4) (512 * qi + 256) u LM LL LA)
    (off : Fin 2 → ℕ) (hoff : off = ![512 * qi + 256, 128 * g]) (offv : Fin 3 → ℕ) (hoffv : offv = ![0, 128 * g, 512 * qi + 256])
    (P : FVec Ideal S1x256x256 .f32) (hP : P = slot2 (S2of c arg6 harg6 arg8 harg8 arg10 x3 x5 off g p (512 * qi + 256) hg hp h hoff))
    (wM : FVec Ideal S1x1x1x256 .f32) (wL : FVec Ideal S1x1x8x256 .f32) (wA : FVec Ideal S1x1x128x256 .f32)
    (hM : wM = k0_pay635 (k0_pay629 (lanes2 (S2of c arg6 harg6 arg8 harg8 arg10 x3 x5 off g p (512 * qi + 256) hg hp h hoff))
      (arg12.view.readCov LM (Rect.unit (s := S8x2x1x512) ![g, p, 0, 256] S1x1x1x256.size (inb4 hg hp (by omega))).toLoadRect)))
    (hL : wL = k0_pay632 (lanes2 (S2of c arg6 harg6 arg8 harg8 arg10 x3 x5 off g p (512 * qi + 256) hg hp h hoff))
      (arg12.view.readCov LM (Rect.unit (s := S8x2x1x512) ![g, p, 0, 256] S1x1x1x256.size (inb4 hg hp (by omega))).toLoadRect) P
      (arg13.view.readCov LL (Rect.unit (s := S8x2x8x512) ![g, p, 0, 256] S1x1x8x256.size (inb4 hg hp (by omega))).toLoadRect))
    (hA : wA = k0_pay634 (k0_pay633 (lanes2 (S2of c arg6 harg6 arg8 harg8 arg10 x3 x5 off g p (512 * qi + 256) hg hp h hoff))
      (arg7.view.readAt (Elt Ideal) (Rect.unit (s := S1x1024x8192) offv S1x128x256.size (vinb hg h hoffv)).toLoadRect (harg7.unread x4))
      (arg12.view.readCov LM (Rect.unit (s := S8x2x1x512) ![g, p, 0, 256] S1x1x1x256.size (inb4 hg hp (by omega))).toLoadRect) P
      (arg14.view.readCov LA (Rect.unit (s := S8x2x128x512) ![g, p, 0, 256] S1x1x128x256.size (inb4 hg hp (by omega))).toLoadRect))) :
    Pass2 (ms x3 (qq x5) qi) (vv x4) (512 * qi + 256) (u + 1)
      (⟨Rect.unit (s := S8x2x1x512) ![g, p, 0, 256] S1x1x1x256.size (inb4 hg hp (by omega)), wM⟩ :: LM)
      (⟨Rect.unit (s := S8x2x8x512) ![g, p, 0, 256] S1x1x8x256.size (inb4 hg hp (by omega)), wL⟩ :: LL)
      (⟨Rect.unit (s := S8x2x128x512) ![g, p, 0, 256] S1x1x128x256.size (inb4 hg hp (by omega)), wA⟩ :: LA) := by
  subst hu
  have hS := fun k q => score_second c arg6 harg6 arg8 harg8 arg10 x3 x5 hg hp h off hoff (kinb hg h hoff) (inb4 hg hp (by omega)) k q
  have hm : ∀ q : Fin 256, arg12.view.readCov LM (Rect.unit (s := S8x2x1x512) ![g, p, 0, 256] S1x1x1x256.size (inb4 hg hp (by omega))).toLoadRect
      (ix4 0 0 0 q) = stM (ms x3 (qq x5) qi) (512 * qi + 256) (ix4 ⟨g, hg⟩ ⟨p, hp⟩ 0 ⟨256 + q.val, by omega⟩) := fun q =>
    (upto_read unitOf LM _ _ _ st.m arg12.view _ _ (unit_in hg hp (by omega) _ _)).trans
      (congrArg (stM (ms x3 (qq x5) qi) (512 * qi + 256)) (emb4 hg hp _ 0 q (by omega)))
  have hl : ∀ (r : Fin 8) (q : Fin 256), arg13.view.readCov LL (Rect.unit (s := S8x2x8x512) ![g, p, 0, 256] S1x1x8x256.size (inb4 hg hp (by omega))).toLoadRect
      (ix4 0 0 r q) = stL (ms x3 (qq x5) qi) (512 * qi + 256) (ix4 ⟨g, hg⟩ ⟨p, hp⟩ r ⟨256 + q.val, by omega⟩) := fun r q =>
    (upto_read unitOf LL _ _ _ st.l arg13.view _ _ (unit_in hg hp (by omega) _ _)).trans
      (congrArg (stL (ms x3 (qq x5) qi) (512 * qi + 256)) (emb4 hg hp _ r q (by omega)))
  have ha : ∀ (e : Fin 128) (q : Fin 256), arg14.view.readCov LA (Rect.unit (s := S8x2x128x512) ![g, p, 0, 256] S1x1x128x256.size (inb4 hg hp (by omega))).toLoadRect
      (ix4 0 0 e q) = stA (ms x3 (qq x5) qi) (vv x4) (512 * qi + 256) (ix4 ⟨g, hg⟩ ⟨p, hp⟩ e ⟨256 + q.val, by omega⟩) := fun e q =>
    (upto_read unitOf LA _ _ _ st.a arg14.view _ _ (unit_in hg hp (by omega) _ _)).trans
      (congrArg (stA (ms x3 (qq x5) qi) (vv x4) (512 * qi + 256)) (emb4 hg hp _ e q (by omega)))
  have hv := fun e k => value_read arg7 harg7 x4 hg h offv hoffv (vinb hg h hoffv) e k
  refine ⟨?_, ?_, ?_⟩
  · exact upto_step unitOf LM _ _ _ st.m _ _ (unit_in hg hp (by omega) _)
      (fun x => ((congrFun hM x).trans (partM2 hg hp h (ms x3 (qq x5) qi) _ _ _ hS hm x)).trans (late_emb hg hp _ _ _ x).symm)
      (fun y hy => late_out hg hp _ _ _ y hy)
  · exact upto_step unitOf LL _ _ _ st.l _ _ (unit_in hg hp (by omega) _)
      (fun x => ((congrFun hL x).trans (partL2 hg hp h (by omega) (ms x3 (qq x5) qi) _ _ _ _ _ hS hm hP hl x)).trans
        (late_emb hg hp _ _ _ x).symm)
      (fun y hy => late_out hg hp _ _ _ y hy)
  · exact upto_step unitOf LA _ _ _ st.a _ _ (unit_in hg hp (by omega) _)
      (fun x => ((congrFun hA x).trans (partA2 hg hp h (ms x3 (qq x5) qi) (vv x4) _ _ _ _ _ _ hv hS hm hP ha x)).trans
        (late_emb hg hp _ _ _ x).symm)
      (fun y hy => late_out hg hp _ _ _ y hy)

end

end AttnMath
-- ==== Proof.State.lean ====
module

public import proofs.«01_k».proof.Proof.Unit

@[expose] public section

set_option maxRecDepth 16384
set_option maxHeartbeats 400000

noncomputable section

namespace AttnMath

open Idealize.ShloMosaic Idealize.ShloMosaic.TcCoe Idealize.ShloMosaic.Tactic
open Idealize.SL.Sem Cert.KernelIdeal Cert.KernelIdeal.Gen Cert.KernelIdeal.Attn

/-! # The scratch state after the diagonal tiles, unit by unit -/

theorem slot_read {sig' : RefSig} {κ : Kind} {sp : Space} {s : Shape} {e : EltTy} (v : View sig' κ sp s e) (r : Rect s)
    (w : r.shape.Idx → Elt Ideal e) (L : List (View.Piece (Elt Ideal) s e)) : v.readCov (⟨r, w⟩ :: L) r.toLoadRect = w :=
  View.readCov_cons_toLoadRect v r w L

theorem slot_read1 {sig' : RefSig} {κ : Kind} {sp : Space} {s : Shape} {e : EltTy} (v : View sig' κ sp s e) (r1 : Rect s)
    (w1 : r1.shape.Idx → Elt Ideal e) (r : Rect s) (w : r.shape.Idx → Elt Ideal e) (L : List (View.Piece (Elt Ideal) s e))
    (h1 : LoadRect.disj r1 r.toLoadRect = true) : v.readCov (⟨r1, w1⟩ :: ⟨r, w⟩ :: L) r.toLoadRect = w :=
  (View.readCov_skip v r1 w1 _ _ h1).trans (slot_read v r w L)

theorem slot_read2 {sig' : RefSig} {κ : Kind} {sp : Space} {s : Shape} {e : EltTy} (v : View sig' κ sp s e) (r2 : Rect s)
    (w2 : r2.shape.Idx → Elt Ideal e) (r1 : Rect s) (w1 : r1.shape.Idx → Elt Ideal e) (r : Rect s) (w : r.shape.Idx → Elt Ideal e)
    (L : List (View.Piece (Elt Ideal) s e)) (h2 : LoadRect.disj r2 r.toLoadRect = true) (h1 : LoadRect.disj r1 r.toLoadRect = true) :
    v.readCov (⟨r2, w2⟩ :: ⟨r1, w1⟩ :: ⟨r, w⟩ :: L) r.toLoadRect = w :=
  (View.readCov_skip v r2 w2 _ _ h2).trans (slot_read1 v r1 w1 r w L h1)

theorem slot_read3 {sig' : RefSig} {κ : Kind} {sp : Space} {s : Shape} {e : EltTy} (v : View sig' κ sp s e) (r3 : Rect s)
    (w3 : r3.shape.Idx → Elt Ideal e) (r2 : Rect s) (w2 : r2.shape.Idx → Elt Ideal e) (r1 : Rect s) (w1 : r1.shape.Idx → Elt Ideal e)
    (r : Rect s) (w : r.shape.Idx → Elt Ideal e) (L : List (View.Piece (Elt Ideal) s e)) (h3 : LoadRect.disj r3 r.toLoadRect = true)
    (h2 : LoadRect.disj r2 r.toLoadRect = true) (h1 : LoadRect.disj r1 r.toLoadRect = true) :
    v.readCov (⟨r3, w3⟩ :: ⟨r2, w2⟩ :: ⟨r1, w1⟩ :: ⟨r, w⟩ :: L) r.toLoadRect = w :=
  (View.readCov_skip v r3 w3 _ _ h3).trans (slot_read2 v r2 w2 r1 w1 r w L h2 h1)

variable (c : Dev nD) (i : grid0.Coords) (arg3 : Memref sig .tc .vmem S2x64 .f32) (harg3 : arg3.IsWhole) (arg4 : Memref sig .tc .vmem S2x64 .f32) (harg4 : arg4.IsWhole)
  (arg5 : Memref sig .tc .vmem S128x1 .f32) (harg5 : arg5.IsWhole) (arg6 : Memref sig .tc .vmem S8192x1024 .bf16) (harg6 : arg6.IsWhole)
  (arg7 : Memref sig .tc .vmem S1x1024x8192 .bf16) (harg7 : arg7.IsWhole) (arg8 : Memref sig .tc .vmem S1x1024x512 .f32) (harg8 : arg8.IsWhole)
  (arg9 : Memref sig .tc .vmem S512x1024 .bf16) (harg9 : arg9.IsWhole) (arg10 : Memref sig .tc .vmem S8x2x128x512 .bf16) (harg10 : arg10.IsWhole)
  (arg11 : Memref sig .tc .vmem S5x512x512 .f32) (harg11 : arg11.IsWhole) (arg12 : Memref sig .tc .vmem S8x2x1x512 .f32) (harg12 : arg12.IsWhole)
  (arg13 : Memref sig .tc .vmem S8x2x8x512 .f32) (harg13 : arg13.IsWhole) (arg14 : Memref sig .tc .vmem S8x2x128x512 .f32) (harg14 : arg14.IsWhole)
  (x3 : FVec Ideal S8192x1024 .bf16) (x4 : FVec Ideal S1x1024x8192 .bf16) (x5 : FVec Ideal S1x1024x512 .f32)

/-- The first diagonal tile, all sixteen units. -/
theorem first_tile :
    Pass1 (ms x3 (qq x5) (i 2).val) (vv x4) (512 * (i 2).val) 16
      (attnRun.sl.HS2_16 (F := Ideal) c i arg3 harg3 arg4 harg4 arg5 harg5 arg6 harg6 arg7 harg7 arg8 harg8 arg9 harg9 arg10 harg10 arg11 harg11 arg12 harg12 arg13 harg13 arg14 harg14 x3 x4 x5)
      (attnRun.sl.HS3_16 (F := Ideal) c i arg3 harg3 arg4 harg4 arg5 harg5 arg6 harg6 arg7 harg7 arg8 harg8 arg9 harg9 arg10 harg10 arg11 harg11 arg12 harg12 arg13 harg13 arg14 harg14 x3 x4 x5)
      (attnRun.sl.HS4_16 (F := Ideal) c i arg3 harg3 arg4 harg4 arg5 harg5 arg6 harg6 arg7 harg7 arg8 harg8 arg9 harg9 arg10 harg10 arg11 harg11 arg12 harg12 arg13 harg13 arg14 harg14 x3 x4 x5) := by
  have hn : 512 * (i 2).val + 256 ≤ 8192 := by have : (i 2).val < 16 := (i 2).isLt; omega
  obtain ⟨b1, b2, b3⟩ := base c i arg3 harg3 arg4 harg4 arg5 harg5 arg6 harg6 arg7 harg7 arg8 harg8 arg9 harg9 arg10 harg10 arg11 harg11 arg12 harg12 arg13 harg13 arg14 harg14 x3 x4 x5
  have h0 : Pass1 (ms x3 (qq x5) (i 2).val) (vv x4) (512 * (i 2).val) 0 _ _ _ :=
    ⟨upto_zero _ _ _ _ b1, upto_zero _ _ _ _ b2, upto_zero _ _ _ _ b3⟩
  have p0 : attnRun.sl.v281 (F := Ideal) c i arg6 harg6 arg8 harg8 arg10 arg11 x3 x5 = slot' (S1of c arg6 harg6 arg8 harg8 arg10 x3 x5
      (k0_off33 i) 0 0 (512 * (i 2).val) (by decide) (by decide) hn (koff1 i 0 _ rfl)) := slot_read3 _ _ _ _ _ _ _ _ _ _ rfl rfl rfl
  have h1 : Pass1 (ms x3 (qq x5) (i 2).val) (vv x4) (512 * (i 2).val) 1 (attnRun.sl.HS2_1_1 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_1_1 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_1_1 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 0 0 (by decide) (by decide) rfl hn h0 (k0_off33 i) (koff1 i 0 _ rfl) (k0_off35 i) (voff1 i 0 _ rfl)
      _ p0 _ _ _ ?_ ?_ ?_ <;> rfl
  have p1 : attnRun.sl.v334 (F := Ideal) c i arg6 harg6 arg8 harg8 arg10 arg11 x3 x5 = slot' (S1of c arg6 harg6 arg8 harg8 arg10 x3 x5
      (k0_off33 i) 0 1 (512 * (i 2).val) (by decide) (by decide) hn (koff1 i 0 _ rfl)) := slot_read3 _ _ _ _ _ _ _ _ _ _ rfl rfl rfl
  have h2 : Pass1 (ms x3 (qq x5) (i 2).val) (vv x4) (512 * (i 2).val) 2 (attnRun.sl.HS2_2 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_2 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_2 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 0 1 (by decide) (by decide) rfl hn h1 (k0_off33 i) (koff1 i 0 _ rfl) (k0_off35 i) (voff1 i 0 _ rfl)
      _ p1 _ _ _ ?_ ?_ ?_ <;> rfl
  have p2 : attnRun.sl.v387 (F := Ideal) c i arg6 harg6 arg8 harg8 arg10 arg11 x3 x5 = slot' (S1of c arg6 harg6 arg8 harg8 arg10 x3 x5
      (k0_off34 i) 1 0 (512 * (i 2).val) (by decide) (by decide) hn (koff1 i 1 _ rfl)) := slot_read3 _ _ _ _ _ _ _ _ _ _ rfl rfl rfl
  have h3 : Pass1 (ms x3 (qq x5) (i 2).val) (vv x4) (512 * (i 2).val) 3 (attnRun.sl.HS2_3 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_3 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_3 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 1 0 (by decide) (by decide) rfl hn h2 (k0_off34 i) (koff1 i 1 _ rfl) (k0_off37 i) (voff1 i 1 _ rfl)
      _ p2 _ _ _ ?_ ?_ ?_ <;> rfl
  have p3 : attnRun.sl.v440 (F := Ideal) c i arg6 harg6 arg8 harg8 arg10 arg11 x3 x5 = slot' (S1of c arg6 harg6 arg8 harg8 arg10 x3 x5
      (k0_off34 i) 1 1 (512 * (i 2).val) (by decide) (by decide) hn (koff1 i 1 _ rfl)) := slot_read3 _ _ _ _ _ _ _ _ _ _ rfl rfl rfl
  have h4 : Pass1 (ms x3 (qq x5) (i 2).val) (vv x4) (512 * (i 2).val) 4 (attnRun.sl.HS2_4 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_4 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_4 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 1 1 (by decide) (by decide) rfl hn h3 (k0_off34 i) (koff1 i 1 _ rfl) (k0_off37 i) (voff1 i 1 _ rfl)
      _ p3 _ _ _ ?_ ?_ ?_ <;> rfl
  have p4 : attnRun.sl.v493 (F := Ideal) c i arg6 harg6 arg8 harg8 arg10 arg11 x3 x5 = slot' (S1of c arg6 harg6 arg8 harg8 arg10 x3 x5
      (k0_off36 i) 2 0 (512 * (i 2).val) (by decide) (by decide) hn (koff1 i 2 _ rfl)) := slot_read3 _ _ _ _ _ _ _ _ _ _ rfl rfl rfl
  have h5 : Pass1 (ms x3 (qq x5) (i 2).val) (vv x4) (512 * (i 2).val) 5 (attnRun.sl.HS2_5 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_5 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_5 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 2 0 (by decide) (by decide) rfl hn h4 (k0_off36 i) (koff1 i 2 _ rfl) (k0_off39 i) (voff1 i 2 _ rfl)
      _ p4 _ _ _ ?_ ?_ ?_ <;> rfl
  have p5 : attnRun.sl.v546 (F := Ideal) c i arg6 harg6 arg8 harg8 arg10 arg11 x3 x5 = slot' (S1of c arg6 harg6 arg8 harg8 arg10 x3 x5
      (k0_off36 i) 2 1 (512 * (i 2).val) (by decide) (by decide) hn (koff1 i 2 _ rfl)) := slot_read3 _ _ _ _ _ _ _ _ _ _ rfl rfl rfl
  have h6 : Pass1 (ms x3 (qq x5) (i 2).val) (vv x4) (512 * (i 2).val) 6 (attnRun.sl.HS2_6 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_6 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_6 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 2 1 (by decide) (by decide) rfl hn h5 (k0_off36 i) (koff1 i 2 _ rfl) (k0_off39 i) (voff1 i 2 _ rfl)
      _ p5 _ _ _ ?_ ?_ ?_ <;> rfl
  have p6 : attnRun.sl.v599 (F := Ideal) c i arg6 harg6 arg8 harg8 arg10 arg11 x3 x5 = slot' (S1of c arg6 harg6 arg8 harg8 arg10 x3 x5
      (k0_off38 i) 3 0 (512 * (i 2).val) (by decide) (by decide) hn (koff1 i 3 _ rfl)) := slot_read3 _ _ _ _ _ _ _ _ _ _ rfl rfl rfl
  have h7 : Pass1 (ms x3 (qq x5) (i 2).val) (vv x4) (512 * (i 2).val) 7 (attnRun.sl.HS2_7 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_7 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_7 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 3 0 (by decide) (by decide) rfl hn h6 (k0_off38 i) (koff1 i 3 _ rfl) (k0_off41 i) (voff1 i 3 _ rfl)
      _ p6 _ _ _ ?_ ?_ ?_ <;> rfl
  have p7 : attnRun.sl.v652 (F := Ideal) c i arg6 harg6 arg8 harg8 arg10 arg11 x3 x5 = slot' (S1of c arg6 harg6 arg8 harg8 arg10 x3 x5
      (k0_off38 i) 3 1 (512 * (i 2).val) (by decide) (by decide) hn (koff1 i 3 _ rfl)) := slot_read3 _ _ _ _ _ _ _ _ _ _ rfl rfl rfl
  have h8 : Pass1 (ms x3 (qq x5) (i 2).val) (vv x4) (512 * (i 2).val) 8 (attnRun.sl.HS2_8 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_8 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_8 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 3 1 (by decide) (by decide) rfl hn h7 (k0_off38 i) (koff1 i 3 _ rfl) (k0_off41 i) (voff1 i 3 _ rfl)
      _ p7 _ _ _ ?_ ?_ ?_ <;> rfl
  have p8 : attnRun.sl.v705 (F := Ideal) c i arg6 harg6 arg8 harg8 arg10 arg11 x3 x5 = slot' (S1of c arg6 harg6 arg8 harg8 arg10 x3 x5
      (k0_off40 i) 4 0 (512 * (i 2).val) (by decide) (by decide) hn (koff1 i 4 _ rfl)) := slot_read3 _ _ _ _ _ _ _ _ _ _ rfl rfl rfl
  have h9 : Pass1 (ms x3 (qq x5) (i 2).val) (vv x4) (512 * (i 2).val) 9 (attnRun.sl.HS2_9 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_9 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_9 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 4 0 (by decide) (by decide) rfl hn h8 (k0_off40 i) (koff1 i 4 _ rfl) (k0_off43 i) (voff1 i 4 _ rfl)
      _ p8 _ _ _ ?_ ?_ ?_ <;> rfl
  have p9 : attnRun.sl.v758 (F := Ideal) c i arg6 harg6 arg8 harg8 arg10 arg11 x3 x5 = slot' (S1of c arg6 harg6 arg8 harg8 arg10 x3 x5
      (k0_off40 i) 4 1 (512 * (i 2).val) (by decide) (by decide) hn (koff1 i 4 _ rfl)) := slot_read3 _ _ _ _ _ _ _ _ _ _ rfl rfl rfl
  have h10 : Pass1 (ms x3 (qq x5) (i 2).val) (vv x4) (512 * (i 2).val) 10 (attnRun.sl.HS2_10 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_10 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_10 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 4 1 (by decide) (by decide) rfl hn h9 (k0_off40 i) (koff1 i 4 _ rfl) (k0_off43 i) (voff1 i 4 _ rfl)
      _ p9 _ _ _ ?_ ?_ ?_ <;> rfl
  have p10 : attnRun.sl.v811 (F := Ideal) c i arg6 harg6 arg8 harg8 arg10 arg11 x3 x5 = slot' (S1of c arg6 harg6 arg8 harg8 arg10 x3 x5
      (k0_off42 i) 5 0 (512 * (i 2).val) (by decide) (by decide) hn (koff1 i 5 _ rfl)) := slot_read3 _ _ _ _ _ _ _ _ _ _ rfl rfl rfl
  have h11 : Pass1 (ms x3 (qq x5) (i 2).val) (vv x4) (512 * (i 2).val) 11 (attnRun.sl.HS2_11 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_11 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_11 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 5 0 (by decide) (by decide) rfl hn h10 (k0_off42 i) (koff1 i 5 _ rfl) (k0_off45 i) (voff1 i 5 _ rfl)
      _ p10 _ _ _ ?_ ?_ ?_ <;> rfl
  have p11 : attnRun.sl.v864 (F := Ideal) c i arg6 harg6 arg8 harg8 arg10 arg11 x3 x5 = slot' (S1of c arg6 harg6 arg8 harg8 arg10 x3 x5
      (k0_off42 i) 5 1 (512 * (i 2).val) (by decide) (by decide) hn (koff1 i 5 _ rfl)) := slot_read3 _ _ _ _ _ _ _ _ _ _ rfl rfl rfl
  have h12 : Pass1 (ms x3 (qq x5) (i 2).val) (vv x4) (512 * (i 2).val) 12 (attnRun.sl.HS2_12 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_12 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_12 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 5 1 (by decide) (by decide) rfl hn h11 (k0_off42 i) (koff1 i 5 _ rfl) (k0_off45 i) (voff1 i 5 _ rfl)
      _ p11 _ _ _ ?_ ?_ ?_ <;> rfl
  have p12 : attnRun.sl.v917 (F := Ideal) c i arg6 harg6 arg8 harg8 arg10 arg11 x3 x5 = slot' (S1of c arg6 harg6 arg8 harg8 arg10 x3 x5
      (k0_off44 i) 6 0 (512 * (i 2).val) (by decide) (by decide) hn (koff1 i 6 _ rfl)) := slot_read3 _ _ _ _ _ _ _ _ _ _ rfl rfl rfl
  have h13 : Pass1 (ms x3 (qq x5) (i 2).val) (vv x4) (512 * (i 2).val) 13 (attnRun.sl.HS2_13 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_13 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_13 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 6 0 (by decide) (by decide) rfl hn h12 (k0_off44 i) (koff1 i 6 _ rfl) (k0_off47 i) (voff1 i 6 _ rfl)
      _ p12 _ _ _ ?_ ?_ ?_ <;> rfl
  have p13 : attnRun.sl.v970 (F := Ideal) c i arg6 harg6 arg8 harg8 arg10 arg11 x3 x5 = slot' (S1of c arg6 harg6 arg8 harg8 arg10 x3 x5
      (k0_off44 i) 6 1 (512 * (i 2).val) (by decide) (by decide) hn (koff1 i 6 _ rfl)) := slot_read3 _ _ _ _ _ _ _ _ _ _ rfl rfl rfl
  have h14 : Pass1 (ms x3 (qq x5) (i 2).val) (vv x4) (512 * (i 2).val) 14 (attnRun.sl.HS2_14 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_14 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_14 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 6 1 (by decide) (by decide) rfl hn h13 (k0_off44 i) (koff1 i 6 _ rfl) (k0_off47 i) (voff1 i 6 _ rfl)
      _ p13 _ _ _ ?_ ?_ ?_ <;> rfl
  have p14 : attnRun.sl.v1023 (F := Ideal) c i arg6 harg6 arg8 harg8 arg10 arg11 x3 x5 = slot' (S1of c arg6 harg6 arg8 harg8 arg10 x3 x5
      (k0_off46 i) 7 0 (512 * (i 2).val) (by decide) (by decide) hn (koff1 i 7 _ rfl)) := slot_read3 _ _ _ _ _ _ _ _ _ _ rfl rfl rfl
  have h15 : Pass1 (ms x3 (qq x5) (i 2).val) (vv x4) (512 * (i 2).val) 15 (attnRun.sl.HS2_15 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_15 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_15 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 7 0 (by decide) (by decide) rfl hn h14 (k0_off46 i) (koff1 i 7 _ rfl) (k0_off49 i) (voff1 i 7 _ rfl)
      _ p14 _ _ _ ?_ ?_ ?_ <;> rfl
  have p15 : attnRun.sl.v1076 (F := Ideal) c i arg6 harg6 arg8 harg8 arg10 arg11 x3 x5 = slot' (S1of c arg6 harg6 arg8 harg8 arg10 x3 x5
      (k0_off46 i) 7 1 (512 * (i 2).val) (by decide) (by decide) hn (koff1 i 7 _ rfl)) := slot_read3 _ _ _ _ _ _ _ _ _ _ rfl rfl rfl
  have h16 : Pass1 (ms x3 (qq x5) (i 2).val) (vv x4) (512 * (i 2).val) 16 (attnRun.sl.HS2_16 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_16 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_16 (F := Ideal) c i arg3 harg3 arg4 harg4 arg5 harg5 arg6 harg6 arg7 harg7 arg8 harg8 arg9 harg9 arg10 harg10 arg11 harg11 arg12 harg12 arg13 harg13 arg14 harg14 x3 x4 x5) := by
    refine unit1 c arg6 harg6 arg7 harg7 arg8 harg8 arg10 arg12 arg13 arg14 x3 x4 x5 7 1 (by decide) (by decide) rfl hn h15 (k0_off46 i) (koff1 i 7 _ rfl) (k0_off49 i) (voff1 i 7 _ rfl)
      _ p15 _ _ _ ?_ ?_ ?_ <;> rfl
  exact h16

/-- The second diagonal tile, all sixteen units. -/
theorem second_tile :
    ∃ LM, Pass2 (ms x3 (qq x5) (i 2).val) (vv x4) (512 * (i 2).val + 256) 16 LM
      (attnRun.sl.HS3_32 (F := Ideal) c i arg3 harg3 arg4 harg4 arg5 harg5 arg6 harg6 arg7 harg7 arg8 harg8 arg9 harg9 arg10 harg10 arg11 harg11 arg12 harg12 arg13 harg13 arg14 harg14 x3 x4 x5)
      (attnRun.sl.HS4_32 (F := Ideal) c i arg3 harg3 arg4 harg4 arg5 harg5 arg6 harg6 arg7 harg7 arg8 harg8 arg9 harg9 arg10 harg10 arg11 harg11 arg12 harg12 arg13 harg13 arg14 harg14 x3 x4 x5) := by
  have hn : 512 * (i 2).val + 256 + 256 ≤ 8192 := by have : (i 2).val < 16 := (i 2).isLt; omega
  have b := first_tile c i arg3 harg3 arg4 harg4 arg5 harg5 arg6 harg6 arg7 harg7 arg8 harg8 arg9 harg9 arg10 harg10 arg11 harg11 arg12 harg12 arg13 harg13 arg14 harg14 x3 x4 x5
  have h0 : Pass2 (ms x3 (qq x5) (i 2).val) (vv x4) (512 * (i 2).val + 256) 0 _ _ _ :=
    ⟨upto_zero _ _ _ _ (upto_all _ _ _ _ _ b.m unitOf_lt), upto_zero _ _ _ _ (upto_all _ _ _ _ _ b.l unitOf_lt),
      upto_zero _ _ _ _ (upto_all _ _ _ _ _ b.a unitOf_lt)⟩
  have p0 : attnRun.sl.v1129 (F := Ideal) c i arg6 harg6 arg8 harg8 arg10 arg11 x3 x5 = slot2 (S2of c arg6 harg6 arg8 harg8 arg10 x3 x5
      (k0_off48 i) 0 0 (512 * (i 2).val + 256) (by decide) (by decide) hn (koff2 i 0 _ rfl)) := slot_read3 _ _ _ _ _ _ _ _ _ _ rfl rfl rfl
  have h1 : Pass2 (ms x3 (qq x5) (i 2).val) (vv x4) (512 * (i 2).val + 256) 1 (attnRun.sl.HS2_17 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_17 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_17 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 0 0 (by decide) (by decide) rfl hn h0 (k0_off48 i) (koff2 i 0 _ rfl) (k0_off51 i) (voff2 i 0 _ rfl)
      _ p0 _ _ _ ?_ ?_ ?_ <;> rfl
  have p1 : attnRun.sl.v1182 (F := Ideal) c i arg6 harg6 arg8 harg8 arg10 arg11 x3 x5 = slot2 (S2of c arg6 harg6 arg8 harg8 arg10 x3 x5
      (k0_off48 i) 0 1 (512 * (i 2).val + 256) (by decide) (by decide) hn (koff2 i 0 _ rfl)) := slot_read3 _ _ _ _ _ _ _ _ _ _ rfl rfl rfl
  have h2 : Pass2 (ms x3 (qq x5) (i 2).val) (vv x4) (512 * (i 2).val + 256) 2 (attnRun.sl.HS2_18 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_18 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_18 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 0 1 (by decide) (by decide) rfl hn h1 (k0_off48 i) (koff2 i 0 _ rfl) (k0_off51 i) (voff2 i 0 _ rfl)
      _ p1 _ _ _ ?_ ?_ ?_ <;> rfl
  have p2 : attnRun.sl.v1235 (F := Ideal) c i arg6 harg6 arg8 harg8 arg10 arg11 x3 x5 = slot2 (S2of c arg6 harg6 arg8 harg8 arg10 x3 x5
      (k0_off50 i) 1 0 (512 * (i 2).val + 256) (by decide) (by decide) hn (koff2 i 1 _ rfl)) := slot_read3 _ _ _ _ _ _ _ _ _ _ rfl rfl rfl
  have h3 : Pass2 (ms x3 (qq x5) (i 2).val) (vv x4) (512 * (i 2).val + 256) 3 (attnRun.sl.HS2_19 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_19 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_19 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 1 0 (by decide) (by decide) rfl hn h2 (k0_off50 i) (koff2 i 1 _ rfl) (k0_off53 i) (voff2 i 1 _ rfl)
      _ p2 _ _ _ ?_ ?_ ?_ <;> rfl
  have p3 : attnRun.sl.v1288 (F := Ideal) c i arg6 harg6 arg8 harg8 arg10 arg11 x3 x5 = slot2 (S2of c arg6 harg6 arg8 harg8 arg10 x3 x5
      (k0_off50 i) 1 1 (512 * (i 2).val + 256) (by decide) (by decide) hn (koff2 i 1 _ rfl)) := slot_read3 _ _ _ _ _ _ _ _ _ _ rfl rfl rfl
  have h4 : Pass2 (ms x3 (qq x5) (i 2).val) (vv x4) (512 * (i 2).val + 256) 4 (attnRun.sl.HS2_20 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_20 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_20 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 1 1 (by decide) (by decide) rfl hn h3 (k0_off50 i) (koff2 i 1 _ rfl) (k0_off53 i) (voff2 i 1 _ rfl)
      _ p3 _ _ _ ?_ ?_ ?_ <;> rfl
  have p4 : attnRun.sl.v1341 (F := Ideal) c i arg6 harg6 arg8 harg8 arg10 arg11 x3 x5 = slot2 (S2of c arg6 harg6 arg8 harg8 arg10 x3 x5
      (k0_off52 i) 2 0 (512 * (i 2).val + 256) (by decide) (by decide) hn (koff2 i 2 _ rfl)) := slot_read3 _ _ _ _ _ _ _ _ _ _ rfl rfl rfl
  have h5 : Pass2 (ms x3 (qq x5) (i 2).val) (vv x4) (512 * (i 2).val + 256) 5 (attnRun.sl.HS2_21 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_21 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_21 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 2 0 (by decide) (by decide) rfl hn h4 (k0_off52 i) (koff2 i 2 _ rfl) (k0_off55 i) (voff2 i 2 _ rfl)
      _ p4 _ _ _ ?_ ?_ ?_ <;> rfl
  have p5 : attnRun.sl.v1394 (F := Ideal) c i arg6 harg6 arg8 harg8 arg10 arg11 x3 x5 = slot2 (S2of c arg6 harg6 arg8 harg8 arg10 x3 x5
      (k0_off52 i) 2 1 (512 * (i 2).val + 256) (by decide) (by decide) hn (koff2 i 2 _ rfl)) := slot_read3 _ _ _ _ _ _ _ _ _ _ rfl rfl rfl
  have h6 : Pass2 (ms x3 (qq x5) (i 2).val) (vv x4) (512 * (i 2).val + 256) 6 (attnRun.sl.HS2_22 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_22 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_22 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 2 1 (by decide) (by decide) rfl hn h5 (k0_off52 i) (koff2 i 2 _ rfl) (k0_off55 i) (voff2 i 2 _ rfl)
      _ p5 _ _ _ ?_ ?_ ?_ <;> rfl
  have p6 : attnRun.sl.v1447 (F := Ideal) c i arg6 harg6 arg8 harg8 arg10 arg11 x3 x5 = slot2 (S2of c arg6 harg6 arg8 harg8 arg10 x3 x5
      (k0_off54 i) 3 0 (512 * (i 2).val + 256) (by decide) (by decide) hn (koff2 i 3 _ rfl)) := slot_read3 _ _ _ _ _ _ _ _ _ _ rfl rfl rfl
  have h7 : Pass2 (ms x3 (qq x5) (i 2).val) (vv x4) (512 * (i 2).val + 256) 7 (attnRun.sl.HS2_23 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_23 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_23 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 3 0 (by decide) (by decide) rfl hn h6 (k0_off54 i) (koff2 i 3 _ rfl) (k0_off57 i) (voff2 i 3 _ rfl)
      _ p6 _ _ _ ?_ ?_ ?_ <;> rfl
  have p7 : attnRun.sl.v1500 (F := Ideal) c i arg6 harg6 arg8 harg8 arg10 arg11 x3 x5 = slot2 (S2of c arg6 harg6 arg8 harg8 arg10 x3 x5
      (k0_off54 i) 3 1 (512 * (i 2).val + 256) (by decide) (by decide) hn (koff2 i 3 _ rfl)) := slot_read3 _ _ _ _ _ _ _ _ _ _ rfl rfl rfl
  have h8 : Pass2 (ms x3 (qq x5) (i 2).val) (vv x4) (512 * (i 2).val + 256) 8 (attnRun.sl.HS2_24 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_24 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_24 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 3 1 (by decide) (by decide) rfl hn h7 (k0_off54 i) (koff2 i 3 _ rfl) (k0_off57 i) (voff2 i 3 _ rfl)
      _ p7 _ _ _ ?_ ?_ ?_ <;> rfl
  have p8 : attnRun.sl.v1553 (F := Ideal) c i arg6 harg6 arg8 harg8 arg10 arg11 x3 x5 = slot2 (S2of c arg6 harg6 arg8 harg8 arg10 x3 x5
      (k0_off56 i) 4 0 (512 * (i 2).val + 256) (by decide) (by decide) hn (koff2 i 4 _ rfl)) := slot_read3 _ _ _ _ _ _ _ _ _ _ rfl rfl rfl
  have h9 : Pass2 (ms x3 (qq x5) (i 2).val) (vv x4) (512 * (i 2).val + 256) 9 (attnRun.sl.HS2_25 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_25 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_25 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 4 0 (by decide) (by decide) rfl hn h8 (k0_off56 i) (koff2 i 4 _ rfl) (k0_off59 i) (voff2 i 4 _ rfl)
      _ p8 _ _ _ ?_ ?_ ?_ <;> rfl
  have p9 : attnRun.sl.v1606 (F := Ideal) c i arg6 harg6 arg8 harg8 arg10 arg11 x3 x5 = slot2 (S2of c arg6 harg6 arg8 harg8 arg10 x3 x5
      (k0_off56 i) 4 1 (512 * (i 2).val + 256) (by decide) (by decide) hn (koff2 i 4 _ rfl)) := slot_read3 _ _ _ _ _ _ _ _ _ _ rfl rfl rfl
  have h10 : Pass2 (ms x3 (qq x5) (i 2).val) (vv x4) (512 * (i 2).val + 256) 10 (attnRun.sl.HS2_26 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_26 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_26 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 4 1 (by decide) (by decide) rfl hn h9 (k0_off56 i) (koff2 i 4 _ rfl) (k0_off59 i) (voff2 i 4 _ rfl)
      _ p9 _ _ _ ?_ ?_ ?_ <;> rfl
  have p10 : attnRun.sl.v1659 (F := Ideal) c i arg6 harg6 arg8 harg8 arg10 arg11 x3 x5 = slot2 (S2of c arg6 harg6 arg8 harg8 arg10 x3 x5
      (k0_off58 i) 5 0 (512 * (i 2).val + 256) (by decide) (by decide) hn (koff2 i 5 _ rfl)) := slot_read3 _ _ _ _ _ _ _ _ _ _ rfl rfl rfl
  have h11 : Pass2 (ms x3 (qq x5) (i 2).val) (vv x4) (512 * (i 2).val + 256) 11 (attnRun.sl.HS2_27 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_27 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_27 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 5 0 (by decide) (by decide) rfl hn h10 (k0_off58 i) (koff2 i 5 _ rfl) (k0_off61 i) (voff2 i 5 _ rfl)
      _ p10 _ _ _ ?_ ?_ ?_ <;> rfl
  have p11 : attnRun.sl.v1712 (F := Ideal) c i arg6 harg6 arg8 harg8 arg10 arg11 x3 x5 = slot2 (S2of c arg6 harg6 arg8 harg8 arg10 x3 x5
      (k0_off58 i) 5 1 (512 * (i 2).val + 256) (by decide) (by decide) hn (koff2 i 5 _ rfl)) := slot_read3 _ _ _ _ _ _ _ _ _ _ rfl rfl rfl
  have h12 : Pass2 (ms x3 (qq x5) (i 2).val) (vv x4) (512 * (i 2).val + 256) 12 (attnRun.sl.HS2_28 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_28 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_28 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 5 1 (by decide) (by decide) rfl hn h11 (k0_off58 i) (koff2 i 5 _ rfl) (k0_off61 i) (voff2 i 5 _ rfl)
      _ p11 _ _ _ ?_ ?_ ?_ <;> rfl
  have p12 : attnRun.sl.v1765 (F := Ideal) c i arg6 harg6 arg8 harg8 arg10 arg11 x3 x5 = slot2 (S2of c arg6 harg6 arg8 harg8 arg10 x3 x5
      (k0_off60 i) 6 0 (512 * (i 2).val + 256) (by decide) (by decide) hn (koff2 i 6 _ rfl)) := slot_read3 _ _ _ _ _ _ _ _ _ _ rfl rfl rfl
  have h13 : Pass2 (ms x3 (qq x5) (i 2).val) (vv x4) (512 * (i 2).val + 256) 13 (attnRun.sl.HS2_29 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_29 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_29 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 6 0 (by decide) (by decide) rfl hn h12 (k0_off60 i) (koff2 i 6 _ rfl) (k0_off63 i) (voff2 i 6 _ rfl)
      _ p12 _ _ _ ?_ ?_ ?_ <;> rfl
  have p13 : attnRun.sl.v1805 (F := Ideal) c i arg6 harg6 arg8 harg8 arg10 arg11 x3 x5 = slot2 (S2of c arg6 harg6 arg8 harg8 arg10 x3 x5
      (k0_off60 i) 6 1 (512 * (i 2).val + 256) (by decide) (by decide) hn (koff2 i 6 _ rfl)) := slot_read2 _ _ _ _ _ _ _ _ rfl rfl
  have h14 : Pass2 (ms x3 (qq x5) (i 2).val) (vv x4) (512 * (i 2).val + 256) 14 (attnRun.sl.HS2_30 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_30 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_30 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 6 1 (by decide) (by decide) rfl hn h13 (k0_off60 i) (koff2 i 6 _ rfl) (k0_off63 i) (voff2 i 6 _ rfl)
      _ p13 _ _ _ ?_ ?_ ?_ <;> rfl
  have p14 : attnRun.sl.v1845 (F := Ideal) c i arg6 harg6 arg8 harg8 arg10 arg11 x3 x5 = slot2 (S2of c arg6 harg6 arg8 harg8 arg10 x3 x5
      (k0_off62 i) 7 0 (512 * (i 2).val + 256) (by decide) (by decide) hn (koff2 i 7 _ rfl)) := slot_read1 _ _ _ _ _ _ rfl
  have h15 : Pass2 (ms x3 (qq x5) (i 2).val) (vv x4) (512 * (i 2).val + 256) 15 (attnRun.sl.HS2_31 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS3_31 (F := Ideal) c i arg3 harg3 arg4 harg4 arg5 harg5 arg6 harg6 arg7 harg7 arg8 harg8 arg9 harg9 arg10 harg10 arg11 harg11 arg12 harg12 arg13 harg13 arg14 harg14 x3 x4 x5) (attnRun.sl.HS4_31 (F := Ideal) c i arg3 harg3 arg4 harg4 arg5 harg5 arg6 harg6 arg7 harg7 arg8 harg8 arg9 harg9 arg10 harg10 arg11 harg11 arg12 harg12 arg13 harg13 arg14 harg14 x3 x4 x5) := by
    refine unit2 c arg6 harg6 arg7 harg7 arg8 harg8 arg10 arg12 arg13 arg14 x3 x4 x5 7 0 (by decide) (by decide) rfl hn h14 (k0_off62 i) (koff2 i 7 _ rfl) (k0_off64 i) (voff2 i 7 _ rfl)
      _ p14 _ _ _ ?_ ?_ ?_ <;> rfl
  have p15 : attnRun.sl.v1885 (F := Ideal) c i arg6 harg6 arg8 harg8 arg10 arg11 x3 x5 = slot2 (S2of c arg6 harg6 arg8 harg8 arg10 x3 x5
      (k0_off62 i) 7 1 (512 * (i 2).val + 256) (by decide) (by decide) hn (koff2 i 7 _ rfl)) := slot_read _ _ _ _
  refine ⟨_, unit2 c arg6 harg6 arg7 harg7 arg8 harg8 arg10 arg12 arg13 arg14 x3 x4 x5 7 1 (by decide) (by decide) rfl hn h15 (k0_off62 i) (koff2 i 7 _ rfl) (k0_off64 i) (voff2 i 7 _ rfl)
      _ p15 _ _ _ rfl ?_ ?_⟩ <;> rfl

end AttnMath
-- ==== Proof.RefVal.lean ====
module

public import proofs.«01_k».proof.Proof.Gen.ReferenceIdeal.Read
public import Idealize.ShloMosaic.Lib.Pointwise
public import Idealize.ShloMosaic.Lib.Routing.Words
public import Idealize.ShloMosaic.Lib.WordCmp

@[expose] public section

set_option maxRecDepth 16384

noncomputable section

namespace AttnMath

open Idealize.ShloMosaic Idealize.ShloMosaic.Tactic Idealize.SL.Sem Cert.ReferenceIdeal Cert.ReferenceIdeal.Gen Cert.ReferenceIdeal.Read

/-! # What the reference computes, element by element -/

/-- The product of query `q` and key `k` of head `h`, part `c`. -/
def qk (x0 x1 : FVec Ideal S4x8192x8x2x64 .f32) (b : Fin 4) (h : Fin 8) (c : Fin 2) (q k : Fin 8192) : EReal :=
  ∑ d : Fin 64, x0 (ix5 b q h c d) * x1 (ix5 b k h c d)

/-- The scaled score, `-∞` where the key's chunk lies after the query's. -/
def refS (x0 x1 : FVec Ideal S4x8192x8x2x64 .f32) (b : Fin 4) (h : Fin 8) (c : Fin 2) (q k : Fin 8192) : EReal :=
  if k.val / 64 ≤ q.val / 64 then qk x0 x1 b h c q k * Ideal.ofBits .f32 0x3E000000#32 else ⊥

/-- The weight of a key before it is divided by the sum of the weights. -/
def refW (x0 x1 : FVec Ideal S4x8192x8x2x64 .f32) (b : Fin 4) (h : Fin 8) (c : Fin 2) (q k : Fin 8192) : EReal :=
  Ideal.exp (refS x0 x1 b h c q k - Finset.univ.sup (refS x0 x1 b h c q))

/-- The weight of the second attention map. -/
def lamE (x3 x4 : FVec Ideal S1x2x64 .f32) : EReal :=
  Ideal.exp (∑ j : Fin 64, x3 (ix3 0 0 j) * x4 (ix3 0 0 j)) - Ideal.exp (∑ j : Fin 64, x3 (ix3 0 1 j) * x4 (ix3 0 1 j))
    + Ideal.ofBits .f32 0x3E4CCCCD#32

/-- The difference of the two attention maps, applied to the values. -/
def refO (x0 x1 : FVec Ideal S4x8192x8x2x64 .f32) (x2 : FVec Ideal S4x8192x8x128 .f32) (x3 x4 : FVec Ideal S1x2x64 .f32)
    (b : Fin 4) (h : Fin 8) (q : Fin 8192) (e : Fin 128) : EReal :=
  ∑ k : Fin 8192, x2 (ix4 b k h e) * (Ideal.div (refW x0 x1 b h 0 q k) (∑ j, refW x0 x1 b h 0 q j)
    - lamE x3 x4 * Ideal.div (refW x0 x1 b h 1 q k) (∑ j, refW x0 x1 b h 1 q j))

/-- The norm over a head's features, the gain and the last factor. -/
def finish (o : Fin 128 → EReal) (g : Fin 128 → EReal) (e : Fin 128) : EReal :=
  o e * Ideal.rsqrt (Ideal.div (∑ j, o j * o j) (Ideal.ofBits .f32 0x43000000#32) + Ideal.ofBits .f32 0x358637BD#32) * g e
    * Ideal.ofBits .f32 0x3F4CCCCD#32

theorem botBits : Ideal.ofBits .f32 0xFF800000#32 = (⊥ : EReal) := by
  simp [Ideal.ofBits, Ideal.ieee]

theorem zeroBits : Ideal.ofBits .f32 0x00000000#32 = (0 : EReal) := by
  simp [Ideal.ofBits, Ideal.ieee]

theorem sum_ix1 {n : ℕ} (f : (⟨1, ![n]⟩ : Shape).Idx → EReal) : ∑ j, f j = ∑ j : Fin n, f (ix1 j) := by
  refine (Fintype.sum_equiv ⟨fun j : Fin n => (ix1 j : (⟨1, ![n]⟩ : Shape).Idx), fun i => i 0, fun _ => rfl, fun i => (eq_ix1 i).symm⟩ _ _ fun _ => rfl).symm

theorem ix3_of {n0 n1 n2 : ℕ} {y : (⟨3, ![n0, n1, n2]⟩ : Shape).Idx} {a : Fin n0} {b : Fin n1} {c : Fin n2}
    (h0 : y 0 = a) (h1 : y 1 = b) (h2 : y 2 = c) : y = ix3 a b c := by
  subst h0 h1 h2
  exact eq_ix3 y

theorem chunk_le (a b : Fin 8192) :
    IntOp.cmpi .sle (IntOp.divsi .host (BitVec.ofNat 32 a.val) 64#32) (IntOp.divsi .host (BitVec.ofNat 32 b.val) 64#32)
      = BitVec.ofBool (decide (a.val / 64 ≤ b.val / 64)) := by
  have h : ∀ n : Fin 8192, IntOp.divsi .host (BitVec.ofNat 32 n.val) 64#32 = BitVec.ofNat 32 (n.val / 64) := fun n =>
    Routing.divsi_word .host (by omega) (by norm_num) (by norm_num)
  rw [h, h, WordCmp.cmpi_sle_ofNat (by omega) (by omega)]

variable (x0 x1 : FVec Ideal S4x8192x8x2x64 .f32) (x2 : FVec Ideal S4x8192x8x128 .f32) (x3 x4 : FVec Ideal S1x2x64 .f32)
  (x5 : FVec Ideal S1x128 .f32)

theorem v15_eq (i) : val_main_v15 (F := Ideal) x3 x4 i = lamE x3 x4 := by
  rw [val_main_v15_apply, val_main_v14_apply, val_main_v6_apply, val_main_v13_apply, val_main_v5_apply, val_main_v12_apply,
    val_main_cst_apply, val_main_cst_0_apply, val_main_cst_1_apply]
  unfold lamE
  refine congrArg₂ (· + ·) (congrArg₂ (· - ·) (congrArg Ideal.exp ?_) (congrArg Ideal.exp ?_)) rfl
  · refine (congrArg₂ (· + ·) zeroBits (sum_ix1 _)).trans ((zero_add _).trans (Finset.sum_congr rfl fun j _ => ?_))
    rw [val_main_v4_apply, val_main_v1_apply, val_main_v0_apply, val_main_v3_apply, val_main_v2_apply]
    exact congrArg₂ (· * ·) (congrArg x3 (ix3_of rfl rfl (Fin.ext (by simp; try omega))))
      (congrArg x4 (ix3_of rfl rfl (Fin.ext (by simp; try omega))))
  · refine (congrArg₂ (· + ·) zeroBits (sum_ix1 _)).trans ((zero_add _).trans (Finset.sum_congr rfl fun j _ => ?_))
    rw [val_main_v11_apply, val_main_v8_apply, val_main_v7_apply, val_main_v10_apply, val_main_v9_apply]
    exact congrArg₂ (· * ·) (congrArg x3 (ix3_of rfl (Fin.ext (by simp)) (Fin.ext (by simp; try omega))))
      (congrArg x4 (ix3_of rfl (Fin.ext (by simp)) (Fin.ext (by simp; try omega))))

theorem v27_eq (b : Fin 4) (h : Fin 8) (c : Fin 2) (q k : Fin 8192) :
    val_main_v27 (F := Ideal) x0 x1 (ix5 b h c q k) = refS x0 x1 b h c q k := by
  rw [val_main_v27_apply, val_main_call0_v1_apply, val_main_call0_v2_apply, val_main_call0_v0_apply, val_main_cst_3_apply,
    val_main_v23_apply, val_main_v21_apply, val_main_v22_apply, val_main_v19_apply, val_main_v20_apply, val_main_v18_apply,
    val_main_v18_apply, val_main_v16_apply, val_main_v16_apply, val_main_v17_apply, val_main_v17_apply, val_main_c_apply,
    val_main_v26_apply, val_main_v25_apply, val_main_cst_2_apply, val_main_v24_apply]
  unfold refS
  have e : ∀ (x y : EReal), Scalar.select (BitVec.ofBool (decide (k.val / 64 ≤ q.val / 64))) x y
      = if k.val / 64 ≤ q.val / 64 then x else y := fun x y => by
    unfold Scalar.select
    by_cases hh : k.val / 64 ≤ q.val / 64 <;> simp [hh]
  refine Eq.trans ?_ (e (qk x0 x1 b h c q k * Ideal.ofBits .f32 0x3E000000#32) ⊥)
  refine congr (congr (congrArg Scalar.select (chunk_le k q)) ?_) botBits
  refine congrArg₂ (· * ·) (Finset.sum_congr rfl fun d _ => ?_) rfl
  exact congrArg₂ (· * ·) (congrArg x0 (eq_ix5 _)) (congrArg x1 (eq_ix5 _))

theorem v30_eq (b : Fin 4) (h : Fin 8) (c : Fin 2) (q : Fin 8192) :
    val_main_v30 (F := Ideal) x0 x1 (ix4 b h c q) = Finset.univ.sup (refS x0 x1 b h c q) := by
  rw [val_main_v30_apply, val_main_v29_apply, val_main_cst_5_apply]
  unfold val_main_v28
  have e : Host.reduce FloatOps.maximumf (val_main_v27 (F := Ideal) x0 x1) (val_main_cst_4 (F := Ideal))
      reducesTo_S4x8x2x8192x8192_S4x8x2x8192_d4 h_S_ (ix4 b h c q)
      = Finset.univ.fold max (Ideal.ofBits .f32 0xFF800000#32) fun k : Fin 8192 => val_main_v27 (F := Ideal) x0 x1 (ix5 b h c q k) := by
    generalize val_main_v27 (F := Ideal) x0 x1 = y
    unfold val_main_cst_4
    pointwise
  rw [e]
  simp only [v27_eq]
  refine (congrArg₂ max botBits (congrArg₂ (fun z f => Finset.univ.fold max z f) botBits rfl)).trans ?_
  exact max_eq_right bot_le

theorem v34_eq (b : Fin 4) (h : Fin 8) (c : Fin 2) (q k : Fin 8192) :
    val_main_v34 (F := Ideal) x0 x1 (ix5 b h c q k) = refW x0 x1 b h c q k := by
  rw [val_main_v34_apply, val_main_v33_apply, val_main_v32_apply, val_main_v31_apply, v27_eq]
  unfold refW
  exact congrArg Ideal.exp (congrArg₂ (· - ·) rfl ((congrArg (val_main_v30 (F := Ideal) x0 x1) (eq_ix4 _)).trans (v30_eq x0 x1 b h c q)))

theorem v38_eq (b : Fin 4) (h : Fin 8) (c : Fin 2) (q k : Fin 8192) :
    val_main_v38 (F := Ideal) x0 x1 (ix5 b h c q k)
      = Ideal.div (refW x0 x1 b h c q k) (∑ j, refW x0 x1 b h c q j) := by
  rw [val_main_v38_apply, v34_eq, val_main_v37_apply, val_main_v36_apply, val_main_v35_apply, val_main_cst_6_apply]
  refine congrArg₂ Ideal.div rfl ((congrArg₂ (· + ·) zeroBits (Finset.sum_congr rfl fun j _ => ?_)).trans (zero_add _))
  exact (congrArg (val_main_v34 (F := Ideal) x0 x1) (eq_ix5 _)).trans (v34_eq x0 x1 b h c q j)

theorem ix5_of {n0 n1 n2 n3 n4 : ℕ} {y : (⟨5, ![n0, n1, n2, n3, n4]⟩ : Shape).Idx} {a : Fin n0} {b : Fin n1} {c : Fin n2}
    {d : Fin n3} {e : Fin n4} (h0 : y 0 = a) (h1 : y 1 = b) (h2 : y 2 = c) (h3 : y 3 = d) (h4 : y 4 = e) : y = ix5 a b c d e := by
  subst h0 h1 h2 h3 h4
  exact eq_ix5 y

theorem ix4_of {n0 n1 n2 n3 : ℕ} {y : (⟨4, ![n0, n1, n2, n3]⟩ : Shape).Idx} {a : Fin n0} {b : Fin n1} {c : Fin n2}
    {d : Fin n3} (h0 : y 0 = a) (h1 : y 1 = b) (h2 : y 2 = c) (h3 : y 3 = d) : y = ix4 a b c d := by
  subst h0 h1 h2 h3
  exact eq_ix4 y

theorem v45_eq (b : Fin 4) (h : Fin 8) (q k : Fin 8192) :
    val_main_v45 (F := Ideal) x0 x1 x3 x4 (ix4 b h q k)
      = Ideal.div (refW x0 x1 b h 0 q k) (∑ j, refW x0 x1 b h 0 q j)
        - lamE x3 x4 * Ideal.div (refW x0 x1 b h 1 q k) (∑ j, refW x0 x1 b h 1 q j) := by
  rw [val_main_v45_apply, val_main_v44_apply, val_main_v43_apply, v15_eq, val_main_v40_apply, val_main_v39_apply,
    val_main_v42_apply, val_main_v41_apply, ← v38_eq, ← v38_eq]
  refine congrArg₂ (· - ·) (congrArg _ (ix5_of ?_ ?_ ?_ ?_ ?_)) (congrArg₂ (· * ·) rfl (congrArg _ (ix5_of ?_ ?_ ?_ ?_ ?_)))
  all_goals first
    | rfl
    | (refine Fin.ext ?_; simp; try omega)

theorem v47_eq (b : Fin 4) (q : Fin 8192) (h : Fin 8) (e : Fin 128) :
    val_main_v47 (F := Ideal) x0 x1 x2 x3 x4 (ix4 b q h e) = refO x0 x1 x2 x3 x4 b h q e := by
  rw [val_main_v47_apply, val_main_v46_apply]
  unfold refO
  refine Finset.sum_congr rfl fun k _ => ?_
  rw [← v45_eq]
  exact congrArg₂ (· * ·) (congrArg x2 (eq_ix4 _)) (congrArg _ (eq_ix4 _))

theorem v55_eq (b : Fin 4) (q : Fin 8192) (h : Fin 8) :
    val_main_v55 (F := Ideal) x0 x1 x2 x3 x4 (ix4 b q h 0)
      = Ideal.rsqrt (Ideal.div (∑ j, refO x0 x1 x2 x3 x4 b h q j * refO x0 x1 x2 x3 x4 b h q j) (Ideal.ofBits .f32 0x43000000#32)
          + Ideal.ofBits .f32 0x358637BD#32) := by
  rw [val_main_v55_apply, val_main_v54_apply, val_main_v53_apply, val_main_cst_9_apply, val_main_v52_apply, val_main_v51_apply,
    val_main_cst_8_apply, val_main_v50_apply, val_main_v49_apply, val_main_cst_7_apply]
  refine congrArg Ideal.rsqrt (congrArg₂ (· + ·) (congrArg₂ Ideal.div
    ((congrArg₂ (· + ·) zeroBits (Finset.sum_congr rfl fun j _ => ?_)).trans (zero_add _)) rfl) rfl)
  rw [val_main_v48_apply, ← v47_eq]
  exact congrArg₂ (· * ·) (congrArg _ (eq_ix4 _)) (congrArg _ (eq_ix4 _))

/-- The reference's result at row `8192 * b + q`, feature `e` of head `h`. -/
theorem ref_apply (b : Fin 4) (q : Fin 8192) (h : Fin 8) (e : Fin 128) :
    val_main_v65 (F := Ideal) x0 x1 x2 x3 x4 x5 (ix2 ⟨8192 * b.val + q.val, by omega⟩ ⟨128 * h.val + e.val, by omega⟩)
      = finish (refO x0 x1 x2 x3 x4 b h q) (fun j => x5 (ix2 0 j)) e := by
  rw [val_main_v65_apply, val_main_v64_apply]
  have hi : idx_main_v64 (ix2 ⟨8192 * b.val + q.val, by omega⟩ ⟨128 * h.val + e.val, by omega⟩) = ix4 b q h e := by
    refine ix4_of (Fin.ext ?_) (Fin.ext ?_) (Fin.ext ?_) (Fin.ext ?_)
    all_goals
      simp
      omega
  rw [hi, val_main_v63_apply, val_main_v62_apply, val_main_cst_10_apply, val_main_v61_apply, val_main_v60_apply,
    val_main_v59_apply, val_main_v58_apply, val_main_v57_apply, val_main_v56_apply, v47_eq]
  unfold finish
  refine congrArg₂ (· * ·) (congrArg₂ (· * ·) (congrArg₂ (· * ·) rfl ?_) (congrArg x5 ?_)) rfl
  · exact (congrArg _ (eq_ix4 _)).trans (v55_eq x0 x1 x2 x3 x4 b q h)
  · exact (eq_ix2 _).trans (congrArg₂ ix2 rfl (Fin.ext (by simp; try omega)))

end AttnMath
-- ==== Proof.Out.lean ====
module

public import proofs.«01_k».proof.Proof.State
public import proofs.«01_k».proof.Proof.RefVal

@[expose] public section

set_option maxRecDepth 16384
set_option maxHeartbeats 400000

noncomputable section

namespace AttnMath

open Idealize.ShloMosaic Idealize.ShloMosaic.TcCoe Idealize.ShloMosaic.Tactic
open Idealize.SL.Sem Cert.KernelIdeal Cert.KernelIdeal.Gen Cert.KernelIdeal.Attn

/-! # The output block of one grid point -/

theorem lam_apply (a b c d : FVec Ideal S1x64 .f32) :
    k0_pay800 (F := Ideal) a b c d (ix2 0 0) = Ideal.exp (∑ j : Fin 64, a (ix2 0 j) * b (ix2 0 j))
      - Ideal.exp (∑ j : Fin 64, c (ix2 0 j) * d (ix2 0 j)) + Ideal.ofBits .f32 0x3E4CCCCD#32 := by
  unfold k0_pay800
  pointwise

/-- The output of a head at query `q`, feature `e`. -/
theorem head_apply (L : FVec Ideal S1x1 .f32) (a1 a2 : FVec Ideal S1x1x128x512 .f32) (l1 l2 : FVec Ideal S1x1x8x512 .f32)
    (gn : FVec Ideal S128x1 .f32) (q : Fin 512) (e : Fin 128) :
    k0_pay804 L (k0_pay801 a1 l1) (k0_pay802 a2) (k0_pay803 l2) gn (ix2 q e)
      = finish (fun e => Ideal.div (a1 (ix4 0 0 e q)) (∑ r : Fin 8, l1 (ix4 0 0 r q))
          - L (ix2 0 0) * Ideal.div (a2 (ix4 0 0 e q)) (∑ r : Fin 8, l2 (ix4 0 0 r q))) (fun e => gn (ix2 e 0)) e := by
  unfold k0_pay804 k0_pay801 k0_pay802 k0_pay803 finish
  pointwise

/-- The sum of a unit's weights, and the values they weigh. -/
def sumE (s : Fin 8192 → EReal) : EReal := ∑ k, E (s k) (Finset.univ.sup s)

def sumV (s v : Fin 8192 → EReal) : EReal := ∑ k, E (s k) (Finset.univ.sup s) * v k

/-- The output block as a function of the masked scores and the values. -/
def outE (s : Fin 8 → Fin 2 → Fin 512 → Fin 8192 → EReal) (v : Fin 8 → Fin 128 → Fin 8192 → EReal) (lam : EReal)
    (gn : Fin 128 → EReal) (g : Fin 8) (q : Fin 512) (e : Fin 128) : EReal :=
  finish (fun e => Ideal.div (sumV (s g 0 q) (v g e)) (sumE (s g 0 q)) - lam * Ideal.div (sumV (s g 1 q) (v g e)) (sumE (s g 1 q))) gn e

/-- The same by the block's own index. -/
def outG (s : Fin 8 → Fin 2 → Fin 512 → Fin 8192 → EReal) (v : Fin 8 → Fin 128 → Fin 8192 → EReal) (lam : EReal)
    (gn : Fin 128 → EReal) : S512x1024.Idx → EReal :=
  fun y => outE s v lam gn ⟨(y 1).val / 128, by have : (y 1).val < 1024 := (y 1).isLt; omega⟩ (y 0)
    ⟨(y 1).val % 128, Nat.mod_lt _ (by norm_num)⟩

theorem outG_apply (s : Fin 8 → Fin 2 → Fin 512 → Fin 8192 → EReal) (v : Fin 8 → Fin 128 → Fin 8192 → EReal) (lam : EReal)
    (gn : Fin 128 → EReal) (g : Fin 8) (q : Fin 512) (e : Fin 128) :
    outG s v lam gn (ix2 q ⟨128 * g.val + e.val, by omega⟩) = outE s v lam gn g q e := by
  have h1 : (128 * g.val + e.val) / 128 = g.val := by omega
  have h2 : (128 * g.val + e.val) % 128 = e.val := by omega
  show outE s v lam gn ⟨(128 * g.val + e.val) / 128, _⟩ q ⟨(128 * g.val + e.val) % 128, _⟩ = _
  congr 1 <;> exact Fin.ext (by assumption)

/-- A head's block joins the pieces, its payload given by the equation. -/
theorem consOut {g : ℕ} (hg : g < 8) (s : Fin 8 → Fin 2 → Fin 512 → Fin 8192 → EReal) (v : Fin 8 → Fin 128 → Fin 8192 → EReal)
    (lam : EReal) (gn : Fin 128 → EReal) (L : FVec Ideal S1x1 .f32) (a1 a2 : FVec Ideal S1x1x128x512 .f32)
    (l1 l2 : FVec Ideal S1x1x8x512 .f32) (gv : FVec Ideal S128x1 .f32) (i2)
    (hL : L (ix2 0 0) = lam) (hg1 : ∀ e : Fin 128, gv (ix2 e 0) = gn e)
    (ha1 : ∀ (e : Fin 128) (q : Fin 512), a1 (ix4 0 0 e q) = sumV (s ⟨g, hg⟩ 0 q) (v ⟨g, hg⟩ e))
    (hl1 : ∀ q : Fin 512, ∑ r : Fin 8, l1 (ix4 0 0 r q) = sumE (s ⟨g, hg⟩ 0 q))
    (ha2 : ∀ (e : Fin 128) (q : Fin 512), a2 (ix4 0 0 e q) = sumV (s ⟨g, hg⟩ 1 q) (v ⟨g, hg⟩ e))
    (hl2 : ∀ q : Fin 512, ∑ r : Fin 8, l2 (ix4 0 0 r q) = sumE (s ⟨g, hg⟩ 1 q))
    (w : FVec Ideal S512x128 .bf16) (hw : w = k0_pay804 L (k0_pay801 a1 l1) (k0_pay802 a2) (k0_pay803 l2) gv)
    (T : List (View.Piece (Elt Ideal) S512x1024 .bf16)) (h : View.PiecesOf (e := .bf16) (outG s v lam gn) T) :
    View.PiecesOf (e := .bf16) (outG s v lam gn) (⟨Rect.unit (s := S512x1024) ![0, 128 * g] ![512, 128] i2, w⟩ :: T) := by
  refine ⟨fun y => ?_, h⟩
  obtain ⟨q, e, rfl⟩ : ∃ (q : Fin 512) (e : Fin 128), y = ix2 q e := ⟨y 0, y 1, eq_ix2 y⟩
  subst hw
  show k0_pay804 L (k0_pay801 a1 l1) (k0_pay802 a2) (k0_pay803 l2) gv (ix2 q e) = outG s v lam gn ((Rect.unit (s := S512x1024) ![0, 128 * g] ![512, 128] i2).emb (ix2 q e))
  rw [emb2 i2 q e (by omega) (by omega), head_apply, hL]
  simp only [hg1, ha1, hl1, ha2, hl2]
  refine Eq.trans ?_ (outG_apply s v lam gn ⟨g, hg⟩ q e).symm |>.trans
    (congrArg (outG s v lam gn) (congrArg (fun z => ix2 z _) (Fin.ext (Nat.zero_add _).symm)))
  rfl

section

variable (c : Dev nD) (i : grid0.Coords) (arg3 : Memref sig .tc .vmem S2x64 .f32) (harg3 : arg3.IsWhole) (arg4 : Memref sig .tc .vmem S2x64 .f32) (harg4 : arg4.IsWhole)
  (arg5 : Memref sig .tc .vmem S128x1 .f32) (harg5 : arg5.IsWhole) (arg6 : Memref sig .tc .vmem S8192x1024 .bf16) (harg6 : arg6.IsWhole)
  (arg7 : Memref sig .tc .vmem S1x1024x8192 .bf16) (harg7 : arg7.IsWhole) (arg8 : Memref sig .tc .vmem S1x1024x512 .f32) (harg8 : arg8.IsWhole)
  (arg9 : Memref sig .tc .vmem S512x1024 .bf16) (harg9 : arg9.IsWhole) (arg10 : Memref sig .tc .vmem S8x2x128x512 .bf16) (harg10 : arg10.IsWhole)
  (arg11 : Memref sig .tc .vmem S5x512x512 .f32) (harg11 : arg11.IsWhole) (arg12 : Memref sig .tc .vmem S8x2x1x512 .f32) (harg12 : arg12.IsWhole)
  (arg13 : Memref sig .tc .vmem S8x2x8x512 .f32) (harg13 : arg13.IsWhole) (arg14 : Memref sig .tc .vmem S8x2x128x512 .f32) (harg14 : arg14.IsWhole)
  (x3 : FVec Ideal S8192x1024 .bf16) (x4 : FVec Ideal S1x1024x8192 .bf16) (x5 : FVec Ideal S1x1024x512 .f32)
  (x0 x1 : FVec Ideal S2x64 .f32) (x2 : FVec Ideal S128x1 .f32)

theorem ms_late_half (K : FVec Ideal S8192x1024 .bf16) (Q : FVec Ideal S8x2x128x512 .bf16) (qi : ℕ) (g : Fin 8) (p : Fin 2) (q : Fin 512)
    (hq : q.val < 256) (k : Fin 8192) (hk : 512 * qi + 256 ≤ k.val) : ms K Q qi g p q k = ⊥ :=
  if_neg (by omega)

theorem ms_late (K : FVec Ideal S8192x1024 .bf16) (Q : FVec Ideal S8x2x128x512 .bf16) (qi : ℕ) (g : Fin 8) (p : Fin 2) (q : Fin 512)
    (k : Fin 8192) (hk : 512 * qi + 256 + 256 ≤ k.val) : ms K Q qi g p q k = ⊥ :=
  if_neg (by omega)

/-- The accumulator at the end: the weighted values of all the keys. -/
theorem final_acc (g : Fin 8) (p : Fin 2) (e : Fin 128) (q : Fin 512) :
    View.canon (attnRun.sl.HS4_32 (F := Ideal) c i arg3 harg3 arg4 harg4 arg5 harg5 arg6 harg6 arg7 harg7 arg8 harg8 arg9 harg9 arg10 harg10 arg11 harg11 arg12 harg12 arg13 harg13 arg14 harg14 x3 x4 x5) (ix4 g p e q)
      = sumV (ms x3 (qq x5) (i 2).val g p q) (vv x4 g e) := by
  obtain ⟨LM, h⟩ := second_tile c i arg3 harg3 arg4 harg4 arg5 harg5 arg6 harg6 arg7 harg7 arg8 harg8 arg9 harg9 arg10 harg10 arg11 harg11 arg12 harg12 arg13 harg13 arg14 harg14 x3 x4 x5
  rw [upto_all _ _ _ _ _ h.a unitOf_lt]
  unfold late
  by_cases hq : q.val < 256
  · rw [if_pos (show ((ix4 g p e q) 3).val < 256 from hq)]
    exact runA_all _ _ (ms_late_half x3 (qq x5) _ g p q hq)
  · rw [if_neg (show ¬ ((ix4 g p e q) 3).val < 256 from hq)]
    exact runA_all _ _ (ms_late x3 (qq x5) _ g p q)

/-- The sums at the end, over the eight rows they are kept in. -/
theorem final_sum (g : Fin 8) (p : Fin 2) (q : Fin 512) :
    ∑ r : Fin 8, View.canon (attnRun.sl.HS3_32 (F := Ideal) c i arg3 harg3 arg4 harg4 arg5 harg5 arg6 harg6 arg7 harg7 arg8 harg8 arg9 harg9 arg10 harg10 arg11 harg11 arg12 harg12 arg13 harg13 arg14 harg14 x3 x4 x5) (ix4 g p r q)
      = sumE (ms x3 (qq x5) (i 2).val g p q) := by
  obtain ⟨LM, h⟩ := second_tile c i arg3 harg3 arg4 harg4 arg5 harg5 arg6 harg6 arg7 harg7 arg8 harg8 arg9 harg9 arg10 harg10 arg11 harg11 arg12 harg12 arg13 harg13 arg14 harg14 x3 x4 x5
  rw [upto_all _ _ _ _ _ h.l unitOf_lt]
  unfold late
  by_cases hq : q.val < 256
  · refine Eq.trans (Finset.sum_congr rfl fun r _ => if_pos (show ((ix4 g p r q) 3).val < 256 from hq)) ?_
    exact runL_all _ (ms_late_half x3 (qq x5) _ g p q hq)
  · refine Eq.trans (Finset.sum_congr rfl fun r _ => if_neg (show ¬ ((ix4 g p r q) 3).val < 256 from hq)) ?_
    exact runL_all _ (ms_late x3 (qq x5) _ g p q)

theorem acc_read {g p : ℕ} (hg : g < 8) (hp : p < 2) (inb) (e : Fin 128) (q : Fin 512) :
    arg14.view.readCov (attnRun.sl.HS4_32 (F := Ideal) c i arg3 harg3 arg4 harg4 arg5 harg5 arg6 harg6 arg7 harg7 arg8 harg8 arg9 harg9 arg10 harg10 arg11 harg11 arg12 harg12 arg13 harg13 arg14 harg14 x3 x4 x5)
        (Rect.unit (s := S8x2x128x512) ![g, p, 0, 0] S1x1x128x512.size inb).toLoadRect (ix4 0 0 e q)
      = sumV (ms x3 (qq x5) (i 2).val ⟨g, hg⟩ ⟨p, hp⟩ q) (vv x4 ⟨g, hg⟩ e) := by
  rw [View.readCov_eq_canon', ← final_acc c i arg3 harg3 arg4 harg4 arg5 harg5 arg6 harg6 arg7 harg7 arg8 harg8 arg9 harg9 arg10 harg10 arg11 harg11 arg12 harg12 arg13 harg13 arg14 harg14]
  exact congrArg (View.canon _) (emb4z hg hp inb e q)

theorem sum_read {g p : ℕ} (hg : g < 8) (hp : p < 2) (inb) (q : Fin 512) :
    ∑ r : Fin 8, arg13.view.readCov (attnRun.sl.HS3_32 (F := Ideal) c i arg3 harg3 arg4 harg4 arg5 harg5 arg6 harg6 arg7 harg7 arg8 harg8 arg9 harg9 arg10 harg10 arg11 harg11 arg12 harg12 arg13 harg13 arg14 harg14 x3 x4 x5)
        (Rect.unit (s := S8x2x8x512) ![g, p, 0, 0] S1x1x8x512.size inb).toLoadRect (ix4 0 0 r q)
      = sumE (ms x3 (qq x5) (i 2).val ⟨g, hg⟩ ⟨p, hp⟩ q) := by
  rw [← final_sum c i arg3 harg3 arg4 harg4 arg5 harg5 arg6 harg6 arg7 harg7 arg8 harg8 arg9 harg9 arg10 harg10 arg11 harg11 arg12 harg12 arg13 harg13 arg14 harg14 x3 x4]
  refine Finset.sum_congr rfl fun r _ => ?_
  rw [View.readCov_eq_canon']
  exact congrArg (View.canon _) (emb4z hg hp inb r q)

/-- The weight of the second map, from the kernel's vectors. -/
def lamK (a b : FVec Ideal S2x64 .f32) : EReal :=
  Ideal.exp (∑ j : Fin 64, a (ix2 0 j) * b (ix2 0 j)) - Ideal.exp (∑ j : Fin 64, a (ix2 1 j) * b (ix2 1 j))
    + Ideal.ofBits .f32 0x3E4CCCCD#32

theorem row_read (m : Memref sig .tc .vmem S2x64 .f32) (hm : m.IsWhole) (x : FVec Ideal S2x64 .f32) {r : ℕ} (hr : r < 2) (inb) (j : Fin 64) :
    m.view.readAt (Elt Ideal) (Rect.unit (s := S2x64) ![r, 0] S1x64.size inb).toLoadRect (hm.unread x) (ix2 0 j)
      = x (ix2 ⟨r, hr⟩ j) := by
  refine (congrArg (m.view.read (Elt Ideal) (hm.unread x)) (emb2 inb (0 : Fin 1) j (by simpa using hr) (by omega))).trans ?_
  rw [hm.read_unread]
  exact congrArg (fun z => x (ix2 _ z)) (Fin.ext (Nat.zero_add _))

theorem lam_read : attnRun.sl.r_156 (F := Ideal) c arg3 harg3 arg4 harg4 x0 x1 (ix2 0 0) = lamK x0 x1 := by
  unfold attnRun.sl.r_156 lamK
  refine (lam_apply _ _ _ _).trans ?_
  refine congrArg₂ (fun u w => Ideal.exp u - Ideal.exp w + _) (Finset.sum_congr rfl fun j _ => ?_) (Finset.sum_congr rfl fun j _ => ?_)
  · exact congrArg₂ (· * ·) (row_read arg3 harg3 x0 (r := 0) (by decide) _ j) (row_read arg4 harg4 x1 (r := 0) (by decide) _ j)
  · exact congrArg₂ (· * ·) (row_read arg3 harg3 x0 (r := 1) (by decide) _ j) (row_read arg4 harg4 x1 (r := 1) (by decide) _ j)

theorem gain_read (inb) (e : Fin 128) :
    arg5.view.readAt (Elt Ideal) (Rect.unit (s := S128x1) ![0, 0] S128x1.size inb).toLoadRect (harg5.unread x2) (ix2 e 0)
      = x2 (ix2 e 0) := by
  refine (congrArg (arg5.view.read (Elt Ideal) (harg5.unread x2)) (emb2 inb e (0 : Fin 1) (by omega) (by simp))).trans ?_
  rw [harg5.read_unread]
  exact congrArg (fun z => x2 (ix2 z _)) (Fin.ext (Nat.zero_add _))

/-- What the body writes at a grid point. -/
theorem run_canon :
    View.canon (attnRun (F := Ideal) c i arg3 harg3 arg4 harg4 arg5 harg5 arg6 harg6 arg7 harg7 arg8 harg8 arg9 harg9 arg10 harg10 arg11 harg11 arg12 harg12 arg13 harg13 arg14 harg14 x0 x1 x2 x3 x4 x5).1
      = outG (ms x3 (qq x5) (i 2).val) (vv x4) (lamK x0 x1) (fun e => x2 (ix2 e 0)) := by
  have ha := fun (g p : ℕ) (hg : g < 8) (hp : p < 2) => acc_read c i arg3 harg3 arg4 harg4 arg5 harg5 arg6 harg6 arg7 harg7 arg8 harg8 arg9 harg9 arg10 harg10 arg11 harg11 arg12 harg12 arg13 harg13 arg14 harg14 x3 x4 x5 hg hp (inb4 hg hp (by decide))
  have hl := fun (g p : ℕ) (hg : g < 8) (hp : p < 2) => sum_read c i arg3 harg3 arg4 harg4 arg5 harg5 arg6 harg6 arg7 harg7 arg8 harg8 arg9 harg9 arg10 harg10 arg11 harg11 arg12 harg12 arg13 harg13 arg14 harg14 x3 x4 x5 hg hp (inb4 hg hp (by decide))
  have hL := lam_read c arg3 harg3 arg4 harg4 x0 x1
  have hG := gain_read arg5 harg5 x2 (by decide)
  funext y
  apply canon_of_piecesOf
  · delta attnRun
    refine consOut (g := 7) (by decide) _ _ _ _ _ _ _ _ _ _ _ hL hG (ha 7 0 _ (by decide)) (hl 7 0 _ (by decide)) (ha 7 1 _ (by decide))
      (hl 7 1 _ (by decide)) _ rfl _ ?_
    refine consOut (g := 6) (by decide) _ _ _ _ _ _ _ _ _ _ _ hL hG (ha 6 0 _ (by decide)) (hl 6 0 _ (by decide)) (ha 6 1 _ (by decide))
      (hl 6 1 _ (by decide)) _ rfl _ ?_
    refine consOut (g := 5) (by decide) _ _ _ _ _ _ _ _ _ _ _ hL hG (ha 5 0 _ (by decide)) (hl 5 0 _ (by decide)) (ha 5 1 _ (by decide))
      (hl 5 1 _ (by decide)) _ rfl _ ?_
    refine consOut (g := 4) (by decide) _ _ _ _ _ _ _ _ _ _ _ hL hG (ha 4 0 _ (by decide)) (hl 4 0 _ (by decide)) (ha 4 1 _ (by decide))
      (hl 4 1 _ (by decide)) _ rfl _ ?_
    refine consOut (g := 3) (by decide) _ _ _ _ _ _ _ _ _ _ _ hL hG (ha 3 0 _ (by decide)) (hl 3 0 _ (by decide)) (ha 3 1 _ (by decide))
      (hl 3 1 _ (by decide)) _ rfl _ ?_
    refine consOut (g := 2) (by decide) _ _ _ _ _ _ _ _ _ _ _ hL hG (ha 2 0 _ (by decide)) (hl 2 0 _ (by decide)) (ha 2 1 _ (by decide))
      (hl 2 1 _ (by decide)) _ rfl _ ?_
    refine consOut (g := 1) (by decide) _ _ _ _ _ _ _ _ _ _ _ hL hG (ha 1 0 _ (by decide)) (hl 1 0 _ (by decide)) (ha 1 1 _ (by decide))
      (hl 1 1 _ (by decide)) _ rfl _ ?_
    refine consOut (g := 0) (by decide) _ _ _ _ _ _ _ _ _ _ _ hL hG (ha 0 0 _ (by decide)) (hl 0 0 _ (by decide)) (ha 0 1 _ (by decide))
      (hl 0 1 _ (by decide)) _ rfl _ ?_
    exact trivial
  · exact View.cover_of_tiledL (attnRun (F := Ideal) c i arg3 harg3 arg4 harg4 arg5 harg5 arg6 harg6 arg7 harg7 arg8 harg8 arg9 harg9 arg10 harg10 arg11 harg11 arg12 harg12 arg13 harg13 arg14 harg14 x0 x1 x2 x3 x4 x5).1 S512x128.size (by sl_kernel_rfl) y

end

end AttnMath
-- ==== Proof.Math.lean ====
module

public import proofs.«01_k».proof.Proof.Out

@[expose] public section

set_option maxRecDepth 16384
set_option maxHeartbeats 400000

noncomputable section

namespace AttnMath

open Idealize.ShloMosaic Idealize.ShloMosaic.TcCoe Idealize.ShloMosaic.Tactic
open Idealize.SL.Sem Cert.KernelIdeal

/-! # The kernel's block and the reference's rows are the same numbers -/

/-- The base-two logarithm's factor. -/
abbrev l2 : ℝ := (Real.log 2)⁻¹

theorem log2_pos : 0 < Real.log 2 := Real.log_pos (by norm_num)

theorem l2_pos : 0 < l2 := inv_pos.mpr log2_pos

theorem l2_mul : l2 * Real.log 2 = 1 := inv_mul_cancel₀ log2_pos.ne'

theorem eighthBits : Ideal.ofBits .f32 0x3E000000#32 = ((1 / 8 : ℝ) : EReal) := by
  simp [Ideal.ofBits, Ideal.ieee]
  rw [← EReal.coe_mul]
  norm_num

theorem lamBits : ∃ r : ℝ, Ideal.ofBits .f32 0x3E4CCCCD#32 = (r : EReal) := by
  refine ⟨13421773 * (1 / 67108864), ?_⟩
  simp [Ideal.ofBits, Ideal.ieee]
  norm_num

theorem sizeBits : ∃ r : ℝ, Ideal.ofBits .f32 0x43000000#32 = (r : EReal) ∧ 0 < r := by
  refine ⟨8388608 * (1 / 65536), ?_, by norm_num⟩
  simp [Ideal.ofBits, Ideal.ieee]
  norm_num

theorem epsBits : ∃ r : ℝ, Ideal.ofBits .f32 0x358637BD#32 = (r : EReal) := by
  refine ⟨8796093 * (1 / 8796093022208), ?_⟩
  simp [Ideal.ofBits, Ideal.ieee]
  norm_num

theorem cq_eq : cq = (((1 / 8 : ℝ) * l2 : ℝ) : EReal) := by
  unfold cq
  congr 1
  have h : Real.log 256 = 8 * Real.log 2 := by
    rw [show (256 : ℝ) = 2 ^ 8 by norm_num, Real.log_pow]
    norm_num
  rw [h, mul_inv]
  norm_num

/-- Scaling a sum of two by a positive factor. -/
theorem add_scale (a b : EReal) {c : ℝ} (hc : 0 < c) : a * (c : EReal) + b * (c : EReal) = (a + b) * (c : EReal) := by
  induction a with
  | bot => rw [EReal.bot_mul_coe_of_pos hc, EReal.bot_add, EReal.bot_add, EReal.bot_mul_coe_of_pos hc]
  | top =>
    induction b with
    | bot => rw [EReal.bot_mul_coe_of_pos hc, EReal.add_bot, EReal.add_bot, EReal.bot_mul_coe_of_pos hc]
    | top => rw [EReal.top_add_top, EReal.top_mul_coe_of_pos hc, EReal.top_add_top]
    | coe b => rw [EReal.top_add_coe, EReal.top_mul_coe_of_pos hc, ← EReal.coe_mul, EReal.top_add_coe]
  | coe a =>
    induction b with
    | bot => rw [EReal.bot_mul_coe_of_pos hc, EReal.add_bot, EReal.add_bot, EReal.bot_mul_coe_of_pos hc]
    | top => rw [EReal.coe_add_top, EReal.top_mul_coe_of_pos hc, ← EReal.coe_mul, EReal.coe_add_top]
    | coe b => rw [← EReal.coe_mul, ← EReal.coe_mul, ← EReal.coe_add, ← EReal.coe_add, ← EReal.coe_mul, add_mul]

theorem sum_scale {ι : Type*} (T : Finset ι) (f : ι → EReal) {c : ℝ} (hc : 0 < c) :
    ∑ d ∈ T, f d * (c : EReal) = (∑ d ∈ T, f d) * (c : EReal) := by
  classical
  induction T using Finset.induction_on with
  | empty => simp
  | insert x T hx ih => rw [Finset.sum_insert hx, Finset.sum_insert hx, ih, add_scale _ _ hc]

theorem scaled_sum {n : ℕ} (f g : Fin n → EReal) {c : ℝ} (hc : 0 < c) :
    ∑ d, g d * (f d * (c : EReal)) = (∑ d, f d * g d) * (c : EReal) := by
  rw [← sum_scale _ _ hc]
  exact Finset.sum_congr rfl fun d _ => by rw [← mul_assoc, mul_comm (g d)]

theorem real_sum {n : ℕ} (f g : Fin n → EReal) (hf : ∀ d, f d ≠ ⊥ ∧ f d ≠ ⊤) (hg : ∀ d, g d ≠ ⊥ ∧ g d ≠ ⊤) :
    ∃ r : ℝ, ∑ d, f d * g d = (r : EReal) := by
  lift f to Fin n → ℝ using fun d => ⟨(hf d).2, (hf d).1⟩
  lift g to Fin n → ℝ using fun d => ⟨(hg d).2, (hg d).1⟩
  simp only [← EReal.coe_mul, ← coe_sum]
  exact ⟨_, rfl⟩

/-- Scaling a difference by a positive factor. -/
theorem sub_scale (a b : EReal) {c : ℝ} (hc : 0 < c) : a * (c : EReal) - b * (c : EReal) = (a - b) * (c : EReal) := by
  induction a with
  | bot => rw [EReal.bot_mul_coe_of_pos hc, EReal.bot_sub, EReal.bot_sub, EReal.bot_mul_coe_of_pos hc]
  | top =>
    induction b with
    | bot => rw [EReal.top_mul_coe_of_pos hc, EReal.bot_mul_coe_of_pos hc]; exact (EReal.top_mul_coe_of_pos hc).symm
    | top => rw [EReal.top_mul_coe_of_pos hc]; exact (EReal.bot_mul_coe_of_pos hc).symm
    | coe b =>
      rw [EReal.top_mul_coe_of_pos hc, ← EReal.coe_mul, EReal.top_sub_coe, EReal.top_sub_coe, EReal.top_mul_coe_of_pos hc]
  | coe a =>
    induction b with
    | bot => rw [EReal.bot_mul_coe_of_pos hc, ← EReal.coe_mul]; exact (EReal.top_mul_coe_of_pos hc).symm
    | top => rw [EReal.top_mul_coe_of_pos hc, ← EReal.coe_mul]; exact (EReal.bot_mul_coe_of_pos hc).symm
    | coe b =>
      rw [← EReal.coe_mul, ← EReal.coe_mul, ← EReal.coe_sub, ← EReal.coe_sub, ← EReal.coe_mul, sub_mul]

/-- The largest of scaled scores. -/
theorem sup_scale {n : ℕ} (f : Fin n → EReal) {c : ℝ} (hc : 0 < c) :
    Finset.univ.sup (fun k => f k * (c : EReal)) = Finset.univ.sup f * (c : EReal) := by
  have hm : Monotone fun x : EReal => x * (c : EReal) := fun x y h =>
    mul_le_mul_of_nonneg_right h (EReal.coe_nonneg.mpr hc.le)
  exact (Finset.comp_sup_eq_sup_comp_of_is_total (s := Finset.univ) (f := f) _ hm (EReal.bot_mul_coe_of_pos hc)).symm

/-- A weight to base two of scaled scores is the exponential of the scores. -/
theorem weight_eq {n : ℕ} (f : Fin n → EReal) (k : Fin n) :
    E (f k * (l2 : EReal)) (Finset.univ.sup fun k => f k * (l2 : EReal)) = Ideal.exp (f k - Finset.univ.sup f) := by
  unfold E
  rw [sup_scale f l2_pos, sub_scale _ _ l2_pos, exp2_scaled _ l2_mul]

/-- The weights of a row with a finite score in it are real, and their sum isn't zero. -/
theorem weights_real {n : ℕ} (f : Fin n → EReal) (ht : ∀ k, f k ≠ ⊤) (k1 : Fin n) (h1 : f k1 ≠ ⊥) :
    ∃ w : Fin n → ℝ, (∀ k, Ideal.exp (f k - Finset.univ.sup f) = (w k : EReal)) ∧ ∑ k, w k ≠ 0 := by
  obtain ⟨k0, -, h0⟩ := Finset.exists_mem_eq_sup Finset.univ ⟨k1, Finset.mem_univ _⟩ f
  have hb : f k0 ≠ ⊥ := fun h => h1 (le_bot_iff.mp (h ▸ h0 ▸ Finset.le_sup (f := f) (Finset.mem_univ k1)))
  rw [h0]
  obtain ⟨M, hM⟩ : ∃ M : ℝ, f k0 = (M : EReal) := ⟨_, (EReal.coe_toReal (ht k0) hb).symm⟩
  rw [hM]
  have hw : ∀ k, ∃ w : ℝ, Ideal.exp (f k - (M : EReal)) = (w : EReal) ∧ 0 ≤ w := by
    intro k
    by_cases hk : f k = ⊥
    · exact ⟨0, by rw [hk, EReal.bot_sub]; rfl, le_rfl⟩
    · obtain ⟨r, hr⟩ : ∃ r : ℝ, f k = (r : EReal) := ⟨_, (EReal.coe_toReal (ht k) hk).symm⟩
      exact ⟨Real.exp (r - M), by rw [hr, ← EReal.coe_sub]; rfl, (Real.exp_pos _).le⟩
  choose w hw hn using hw
  refine ⟨w, hw, (Finset.sum_pos' (fun k _ => hn k) ⟨k0, Finset.mem_univ _, ?_⟩).ne'⟩
  have h := hw k0
  rw [hM, ← EReal.coe_sub, sub_self] at h
  have h' : ((Real.exp 0 : ℝ) : EReal) = (w k0 : EReal) := h
  rw [← EReal.coe_injective h', Real.exp_zero]
  exact one_pos

variable (x0 x1 : FVec Ideal Cert.ReferenceIdeal.S4x8192x8x2x64 .f32) (x2 : FVec Ideal Cert.ReferenceIdeal.S4x8192x8x128 .f32)
  (x3 x4 : FVec Ideal Cert.ReferenceIdeal.S1x2x64 .f32)

/-- The weight of the second attention map is real. -/
theorem lam_real (h3 : ∀ i, x3 i ≠ (⊥ : EReal) ∧ x3 i ≠ (⊤ : EReal)) (h4 : ∀ i, x4 i ≠ (⊥ : EReal) ∧ x4 i ≠ (⊤ : EReal)) :
    ∃ r : ℝ, lamE x3 x4 = (r : EReal) := by
  obtain ⟨a, ha⟩ := real_sum (fun j : Fin 64 => x3 (ix3 0 0 j)) (fun j => x4 (ix3 0 0 j)) (fun _ => h3 _) (fun _ => h4 _)
  obtain ⟨b, hb⟩ := real_sum (fun j : Fin 64 => x3 (ix3 0 1 j)) (fun j => x4 (ix3 0 1 j)) (fun _ => h3 _) (fun _ => h4 _)
  obtain ⟨d, hd⟩ := lamBits
  refine ⟨Real.exp a - Real.exp b + d, ?_⟩
  unfold lamE
  rw [ha, hb, hd]
  rfl

/-- A part's score in the kernel is the reference's product, scaled. -/
theorem sc_eq (K : FVec Ideal S8192x1024 .bf16) (X : FVec Ideal S1x1024x512 .f32) (b : Fin 4) (g : Fin 8) (q : Fin 512) (Q : Fin 8192)
    (hK : ∀ (k : Fin 8192) (p : Fin 2) (d : Fin 64), K (ix2 k ⟨128 * g.val + (64 * p.val + d.val), by omega⟩) = x1 (ix5 b k g p d))
    (hX : ∀ (p : Fin 2) (d : Fin 64), X (ix3 0 ⟨128 * g.val + (64 * p.val + d.val), by omega⟩ q) = x0 (ix5 b Q g p d))
    (p : Fin 2) (k : Fin 8192) : sc K (qq X) g p q k = qk x0 x1 b g p Q k * cq := by
  have hs : ∀ f : Fin 128 → EReal, ∑ d, f d = ∑ d : Fin 64, f ⟨d.val, by omega⟩ + ∑ d : Fin 64, f ⟨64 + d.val, by omega⟩ :=
    fun f => Fin.sum_univ_add (a := 64) (b := 64) f
  unfold sc qk
  rw [hs, cq_eq, ← scaled_sum _ _ (mul_pos (by norm_num) l2_pos), ← cq_eq]
  have e0 : ∀ (d : Fin 64), qq X (ix4 g p ⟨d.val, by omega⟩ q) = if p = 0 then x0 (ix5 b Q g 0 d) * cq else 0 := fun d => by
    unfold qq
    refine if_congr ?_ ?_ rfl
    · show (p.val = 0 ↔ d.val < 64) ↔ _
      rw [Fin.ext_iff]
      have := d.isLt
      tauto
    · rw [← hX 0 d]
      refine congrArg (X · * cq) (congrArg (ix3 0 · q) (Fin.ext ?_))
      show 128 * g.val + d.val = 128 * g.val + (64 * 0 + d.val)
      omega
  have e1 : ∀ (d : Fin 64), qq X (ix4 g p ⟨64 + d.val, by omega⟩ q) = if p = 0 then 0 else x0 (ix5 b Q g 1 d) * cq := fun d => by
    unfold qq
    rw [← ite_not]
    refine if_congr ?_ rfl ?_
    · show ¬ (p.val = 0 ↔ 64 + d.val < 64) ↔ _
      rw [Fin.ext_iff]
      have : ¬ 64 + d.val < 64 := by omega
      tauto
    · rw [← hX 1 d]
      refine congrArg (X · * cq) (congrArg (ix3 0 · q) (Fin.ext ?_))
      show 128 * g.val + (64 + d.val) = 128 * g.val + (64 * 1 + d.val)
      omega
  simp only [e0, e1]
  rcases (by omega : p = 0 ∨ p = 1) with rfl | rfl
  · simp only [if_true, mul_zero, Finset.sum_const_zero, add_zero]
    refine Finset.sum_congr rfl fun d _ => congrArg (· * _) ?_
    rw [← hK k 0 d]
    refine congrArg K (congrArg (ix2 k) (Fin.ext ?_))
    show 128 * g.val + d.val = 128 * g.val + (64 * 0 + d.val)
    omega
  · simp only [show (1 : Fin 2) ≠ 0 by decide, if_false, mul_zero, Finset.sum_const_zero, zero_add]
    refine Finset.sum_congr rfl fun d _ => congrArg (· * _) ?_
    rw [← hK k 1 d]
    refine congrArg K (congrArg (ix2 k) (Fin.ext ?_))
    show 128 * g.val + (64 + d.val) = 128 * g.val + (64 * 1 + d.val)
    omega

/-- A masked score in the kernel is the reference's, scaled. -/
theorem ms_eq (K : FVec Ideal S8192x1024 .bf16) (X : FVec Ideal S1x1024x512 .f32) (b : Fin 4) (qi : ℕ) (g : Fin 8) (q : Fin 512) (Q : Fin 8192)
    (hQ : Q.val = 512 * qi + q.val)
    (hK : ∀ (k : Fin 8192) (p : Fin 2) (d : Fin 64), K (ix2 k ⟨128 * g.val + (64 * p.val + d.val), by omega⟩) = x1 (ix5 b k g p d))
    (hX : ∀ (p : Fin 2) (d : Fin 64), X (ix3 0 ⟨128 * g.val + (64 * p.val + d.val), by omega⟩ q) = x0 (ix5 b Q g p d))
    (p : Fin 2) : ms K (qq X) qi g p q = fun k => refS x0 x1 b g p Q k * (l2 : EReal) := by
  funext k
  unfold ms refS
  rw [← hQ]
  by_cases h : k.val / 64 ≤ Q.val / 64
  · rw [if_pos h, if_pos h, sc_eq x0 x1 K X b g q Q hK hX, cq_eq, eighthBits, EReal.coe_mul, mul_assoc]
  · rw [if_neg h, if_neg h, EReal.bot_mul_coe_of_pos l2_pos]

/-- Infinite or zero. -/
def Wild (x : EReal) : Prop := x = 0 ∨ x = ⊤ ∨ x = ⊥

theorem wild_add {x y : EReal} (hx : Wild x) (hy : Wild y) : Wild (x + y) := by
  rcases hx with rfl | rfl | rfl
  · rwa [zero_add]
  · rcases hy with rfl | rfl | rfl
    · rw [add_zero]; exact .inr (.inl rfl)
    · exact .inr (.inl EReal.top_add_top)
    · exact .inr (.inr (EReal.add_bot _))
  · exact .inr (.inr (EReal.bot_add _))

theorem wild_sum {ι : Type*} (T : Finset ι) (f : ι → EReal) (h : ∀ k, Wild (f k)) : Wild (∑ k ∈ T, f k) := by
  classical
  induction T using Finset.induction_on with
  | empty => exact .inl Finset.sum_empty
  | insert x T hx ih => rw [Finset.sum_insert hx]; exact wild_add (h x) ih

theorem wild_mul (v : ℝ) {B : EReal} (hB : B = ⊤ ∨ B = ⊥) : Wild ((v : EReal) * B) := by
  rcases lt_trichotomy v 0 with hv | rfl | hv
  · rcases hB with rfl | rfl
    · exact .inr (.inr (EReal.coe_mul_top_of_neg hv))
    · exact .inr (.inl (EReal.coe_mul_bot_of_neg hv))
  · exact .inl (by rw [EReal.coe_zero, zero_mul])
  · rcases hB with rfl | rfl
    · exact .inr (.inl (EReal.coe_mul_top_of_pos hv))
    · exact .inr (.inr (EReal.coe_mul_bot_of_pos hv))

/-- The norm of a head that is infinite somewhere and zero elsewhere gives zeros. -/
theorem finish_wild (o g : Fin 128 → EReal) (e : Fin 128) (h : ∀ j, Wild (o j)) : finish o g e = 0 := by
  unfold finish
  have hsq : ∀ j, 0 ≤ o j * o j := fun j => by
    rcases h j with hj | hj | hj
    · rw [hj, zero_mul]
    · rw [hj, EReal.top_mul_top]; exact le_top
    · rw [hj, EReal.bot_mul_bot]; exact le_top
  have hinf : o e = ⊤ ∨ o e = ⊥ → ∑ j, o j * o j = ⊤ := fun he => by
    have ht : o e * o e = ⊤ := by
      rcases he with he | he
      · rw [he, EReal.top_mul_top]
      · rw [he, EReal.bot_mul_bot]
    exact top_le_iff.mp (ht ▸ Finset.single_le_sum (f := fun j => o j * o j) (fun j _ => hsq j) (Finset.mem_univ e))
  rcases h e with he | he
  · rw [he, zero_mul, zero_mul, zero_mul]
  · obtain ⟨r, hr, hp⟩ := sizeBits
    obtain ⟨d, hd⟩ := epsBits
    rw [hinf he, hr, hd]
    have hq : Ideal.div ⊤ (r : EReal) = ⊤ := by
      rw [Ideal.div_coe hp.ne']
      exact EReal.top_mul_coe_of_pos (one_div_pos.mpr hp)
    rw [hq, EReal.top_add_coe]
    have hz : Ideal.rsqrt ⊤ = 0 := rfl
    rw [hz, mul_zero, zero_mul, zero_mul]

/-- The weights of a row of scores are real with a sum other than zero, or all zero. -/
theorem weights_cases {n : ℕ} (f : Fin n → EReal) :
    (∃ w : Fin n → ℝ, (∀ k, Ideal.exp (f k - Finset.univ.sup f) = (w k : EReal)) ∧ ∑ k, w k ≠ 0)
      ∨ ∀ k, Ideal.exp (f k - Finset.univ.sup f) = 0 := by
  by_cases ht : ∃ k, f k = ⊤
  · obtain ⟨k0, h0⟩ := ht
    have hM : Finset.univ.sup f = ⊤ := top_le_iff.mp (h0 ▸ Finset.le_sup (f := f) (Finset.mem_univ k0))
    refine .inr fun k => ?_
    rw [hM, EReal.sub_top]
    rfl
  · by_cases hb : ∃ k, f k ≠ ⊥
    · obtain ⟨k1, h1⟩ := hb
      exact .inl (weights_real f (fun k h => ht ⟨k, h⟩) k1 h1)
    · refine .inr fun k => ?_
      rw [not_not.mp fun h => hb ⟨k, h⟩, EReal.bot_sub]
      rfl

theorem div_zero_zero : Ideal.div 0 0 = ⊥ := by
  unfold Ideal.div
  rw [if_pos rfl, if_neg (lt_irrefl _)]

/-- A real multiple of minus infinity is zero or infinite. -/
theorem coe_mul_bot (r : ℝ) : r = 0 ∨ (r : EReal) * ⊥ = ⊤ ∨ (r : EReal) * ⊥ = ⊥ := by
  rcases lt_trichotomy r 0 with h | h | h
  · exact .inr (.inl (EReal.coe_mul_bot_of_neg h))
  · exact .inl h
  · exact .inr (.inr (EReal.coe_mul_bot_of_pos h))

/-- Two attention maps' difference, normed: applied after the division by each map's sum, or before. Where a map has no
    real weights, both ways the head is zero or depends on the other map alone. -/
theorem finish_eq (W1 W2 : Fin 8192 → EReal) (v : Fin 128 → Fin 8192 → ℝ) (lam : ℝ) (gn : Fin 128 → EReal) (e : Fin 128)
    (c1 : (∃ w : Fin 8192 → ℝ, (∀ k, W1 k = (w k : EReal)) ∧ ∑ k, w k ≠ 0) ∨ ∀ k, W1 k = 0)
    (c2 : (∃ w : Fin 8192 → ℝ, (∀ k, W2 k = (w k : EReal)) ∧ ∑ k, w k ≠ 0) ∨ ∀ k, W2 k = 0) :
    finish (fun e => Ideal.div (∑ k, W1 k * (v e k : EReal)) (∑ k, W1 k) - (lam : EReal) * Ideal.div (∑ k, W2 k * (v e k : EReal)) (∑ k, W2 k)) gn e
      = finish (fun e => ∑ k, (v e k : EReal) * (Ideal.div (W1 k) (∑ j, W1 j) - (lam : EReal) * Ideal.div (W2 k) (∑ j, W2 j))) gn e := by
  have far : ∀ B : EReal, B = ⊤ ∨ B = ⊥ →
      finish (fun _ => B) gn e = finish (fun e => ∑ k : Fin 8192, (v e k : EReal) * B) gn e := fun B hB =>
    (finish_wild _ gn e fun _ => .inr hB).trans (finish_wild _ gn e fun j => wild_sum _ _ fun k => wild_mul _ hB).symm
  rcases c1 with ⟨w1, hw1, hn1⟩ | hz1
  · rcases c2 with ⟨w2, hw2, hn2⟩ | hz2
    · refine congrArg (finish · gn e) (funext fun e => ?_)
      simp only [hw1, hw2]
      rw [diff_eq w1 w2 (v e) lam hn1 hn2]
      exact Finset.sum_congr rfl fun k _ => mul_comm _ _
    · simp only [hz2, zero_mul, Finset.sum_const_zero, div_zero_zero]
      rcases coe_mul_bot lam with h | h
      · refine congrArg (finish · gn e) (funext fun e => ?_)
        rw [h]
        have d := diff_eq w1 w1 (v e) 0 hn1 hn1
        simp only [EReal.coe_zero, zero_mul] at d ⊢
        simp only [hw1]
        rw [d]
        exact Finset.sum_congr rfl fun k _ => mul_comm _ _
      · simp only [hw1, ← EReal.coe_mul, ← coe_sum, Ideal.div_coe hn1]
        rcases h with h | h
        · simp only [h, EReal.sub_top]
          exact far ⊥ (.inr rfl)
        · simp only [h, EReal.coe_sub_bot]
          exact far ⊤ (.inl rfl)
  · simp only [hz1, zero_mul, Finset.sum_const_zero, div_zero_zero, EReal.bot_sub]
    exact far ⊥ (.inr rfl)

/-- One element of the kernel's block is the reference's. -/
theorem out_eq (h2 : ∀ i, x2 i ≠ (⊥ : EReal) ∧ x2 i ≠ (⊤ : EReal)) (h3 : ∀ i, x3 i ≠ (⊥ : EReal) ∧ x3 i ≠ (⊤ : EReal))
    (h4 : ∀ i, x4 i ≠ (⊥ : EReal) ∧ x4 i ≠ (⊤ : EReal))
    (K : FVec Ideal S8192x1024 .bf16) (X : FVec Ideal S1x1024x512 .f32) (V : FVec Ideal S1x1024x8192 .bf16) (b : Fin 4) (qi : ℕ) (g : Fin 8)
    (q : Fin 512) (Q : Fin 8192) (hQ : Q.val = 512 * qi + q.val)
    (hK : ∀ (k : Fin 8192) (p : Fin 2) (d : Fin 64), K (ix2 k ⟨128 * g.val + (64 * p.val + d.val), by omega⟩) = x1 (ix5 b k g p d))
    (hX : ∀ (p : Fin 2) (d : Fin 64), X (ix3 0 ⟨128 * g.val + (64 * p.val + d.val), by omega⟩ q) = x0 (ix5 b Q g p d))
    (hV : ∀ (e : Fin 128) (k : Fin 8192), vv V g e k = x2 (ix4 b k g e)) (gn : Fin 128 → EReal) (e : Fin 128) :
    outE (ms K (qq X) qi) (vv V) (lamE x3 x4) gn g q e = finish (refO x0 x1 x2 x3 x4 b g Q) gn e := by
  obtain ⟨lam, hlam⟩ := lam_real x3 x4 h3 h4
  obtain ⟨v, hv⟩ : ∃ v : Fin 128 → Fin 8192 → ℝ, ∀ e k, x2 (ix4 b k g e) = (v e k : EReal) :=
    ⟨_, fun e k => (EReal.coe_toReal (h2 _).2 (h2 _).1).symm⟩
  have h := finish_eq (refW x0 x1 b g 0 Q) (refW x0 x1 b g 1 Q) v lam gn e (weights_cases _) (weights_cases _)
  unfold outE sumV sumE
  rw [ms_eq x0 x1 K X b qi g q Q hQ hK hX 0, ms_eq x0 x1 K X b qi g q Q hQ hK hX 1]
  simp only [weight_eq, hV, hv, hlam]
  refine h.trans ?_
  unfold refO
  simp only [hv, hlam]

end AttnMath
-- ==== Proof.Finite.lean ====
/- What the precondition says: every element of the values and of the two lambda vectors is a real number. -/
module

public import proofs.«01_k».proof.Proof.Online
public import proofs.«01_k».proof.Pre_finite
public import Idealize.ShloMosaic.Lib.ReduceAll
public import Idealize.ShloMosaic.Lib.WordCmp

@[expose] public section

noncomputable section

namespace AttnMath

open Idealize.ShloMosaic Cert.Pre_finite

/-- The two bounds of the comparison: the words of minus and plus infinity. -/
theorem negInf : Ideal.ofBits .f32 0xFF800000#32 = (⊥ : EReal) := by
  simp [Ideal.ofBits, Ideal.ieee]
theorem posInf : Ideal.ofBits .f32 0x7F800000#32 = (⊤ : EReal) := by
  simp [Ideal.ofBits, Ideal.ieee]

/-- Where the conjunction over all elements of "above minus infinity and below plus infinity" is 1, each is neither. -/
theorem real_of_reduce {s t u : Shape} {axes : List (Fin s.rank)} [Subsingleton t.Idx] (x lo hi : FVec Ideal s .f32)
    (hlo : ∀ i, lo i = Ideal.ofBits .f32 0xFF800000#32) (hhi : ∀ i, hi i = Ideal.ofBits .f32 0x7F800000#32)
    (init : u.Idx → BitVec 1) (h : s.ReducesTo axes t) (hu : 0 < u.numel) (j : t.Idx)
    (e : Host.reduce IntOp.andi (andi (cmpf .ogt x lo) (cmpf .olt x hi)) init h hu j = 1#1) (i : s.Idx) :
    x i ≠ (⊥ : EReal) ∧ x i ≠ (⊤ : EReal) := by
  have e1 := Host.reduce_andi_all _ init h hu j e i
  obtain ⟨h1, h2⟩ := IntOp.andi_eq_one.1 e1
  have h1' : Ideal.cmp .ogt (x i) (lo i) = 1#1 := h1
  have h2' : Ideal.cmp .olt (x i) (hi i) = 1#1 := h2
  rw [hlo, negInf] at h1'
  rw [hhi, posInf] at h2'
  constructor
  · intro hx; rw [hx] at h1'; simp [Ideal.cmp] at h1'
  · intro hx; rw [hx] at h2'; simp [Ideal.cmp] at h2'

instance : Subsingleton S_.Idx := ⟨fun a b => funext fun d => d.elim0⟩

/-- The predicate at the six arguments, read element by element. -/
theorem real_of_pre [Facts] (x0 x1 : FVec Ideal S4x8192x8x2x64 .f32) (x2 : FVec Ideal S4x8192x8x128 .f32)
    (x3 x4 : FVec Ideal S1x2x64 .f32) (x5 : FVec Ideal S1x128 .f32)
    (h : fn (F := Ideal) x0 x1 x2 x3 x4 x5 = fun _ => 1#1) :
    (∀ i, x2 i ≠ (⊥ : EReal) ∧ x2 i ≠ (⊤ : EReal)) ∧ (∀ i, x3 i ≠ (⊥ : EReal) ∧ x3 i ≠ (⊤ : EReal))
      ∧ (∀ i, x4 i ≠ (⊥ : EReal) ∧ x4 i ≠ (⊤ : EReal)) := by
  have e := congrFun h (fun d => d.elim0)
  unfold fn at e
  obtain ⟨e, e4⟩ := IntOp.andi_eq_one.1 e
  obtain ⟨e2, e3⟩ := IntOp.andi_eq_one.1 e
  exact ⟨real_of_reduce x2 _ _ (fun _ => rfl) (fun _ => rfl) _ _ _ _ e2, real_of_reduce x3 _ _ (fun _ => rfl) (fun _ => rfl) _ _ _ _ e3,
    real_of_reduce x4 _ _ (fun _ => rfl) (fun _ => rfl) _ _ _ _ e4⟩

end AttnMath
end
-- ==== Proof.Value.lean ====
module

public import proofs.«01_k».proof.Proof.Blocks
public import proofs.«01_k».proof.Proof.Math
public import proofs.«01_k».proof.Proof.Finite
public import proofs.«01_k».proof.Proof.Sides

@[expose] public section

set_option maxRecDepth 16384
set_option maxHeartbeats 400000

noncomputable section

namespace Cert.KernelIdeal.Attn

open Cert.KernelIdeal.Gen AttnMath
open Idealize.ShloMosaic Idealize.ShloMosaic.TcCoe Idealize.ShloMosaic.Tactic
open Idealize.SL Idealize.SL.Sem

variable (m : (ℓ : Loc nD τ sig) → Buf (Elt Ideal) ℓ)

/-! # The launch's result is the reference's -/

/-- The block a grid point leaves, in terms of its input blocks. -/
theorem blockAt_eq (c : Dev nD) (t : Fin cfg0.N) :
    blockAt m c t = outG (ms (iblk m c 3 t) (qq (iblk m c 5 t)) (qtile t).val) (vv (iblk m c 4 t)) (lamK (iblk m c 0 t) (iblk m c 1 t))
      (fun e => (iblk m c 2 t : FVec Ideal S128x1 .f32) (ix2 e 0)) := by
  exact (View.read_writes_junk_eq_canon VO0_6 (piecesAt m c t)).trans (run_canon c (grid0.coords t) (ms0_0 t) (hs0_0 t) (ms0_1 t) (hs0_1 t)
    (ms0_2 t) (hs0_2 t) (ms0_3 t) (hs0_3 t) (ms0_4 t) (hs0_4 t) (ms0_5 t) (hs0_5 t) (ms0_6 t) (hs0_6 t) scM0_0 (Memref.isWhole_whole _)
    scM0_1 (Memref.isWhole_whole _) scM0_2 (Memref.isWhole_whole _) scM0_3 (Memref.isWhole_whole _) scM0_4 (Memref.isWhole_whole _)
    (iblk m c 3 t) (iblk m c 4 t) (iblk m c 5 t) (iblk m c 0 t) (iblk m c 1 t) (iblk m c 2 t))

theorem lam_congr (a b : FVec Ideal S2x64 .f32) (u v : FVec Ideal Cert.ReferenceIdeal.S1x2x64 .f32)
    (ha : ∀ (r : Fin 2) (j : Fin 64), a (ix2 r j) = u (ix3 0 r j)) (hb : ∀ (r : Fin 2) (j : Fin 64), b (ix2 r j) = v (ix3 0 r j)) :
    lamK a b = lamE u v := by
  unfold lamK lamE
  simp only [ha, hb]

/-- The result array after the launch is the reference's result on the same arguments. -/
theorem result_eq [Cert.Pre_finite.Facts] (c : Dev nD)
    (hf : Cert.Pre_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    (dats m 0 c).arrAt 6 cfg0.N = Cert.ReferenceIdeal.Read.val_main_v65 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  obtain ⟨h2, h3, h4⟩ := real_of_pre _ _ _ _ _ _ hf
  refine result_of_blocks m c _ fun t q e => ?_
  have hq : 512 * (qtile t).val + q.val < 8192 := by have := (qtile t).isLt; omega
  obtain ⟨g, e, rfl⟩ : ∃ (g : Fin 8) (e' : Fin 128), e = ⟨128 * g.val + e'.val, by omega⟩ :=
    ⟨⟨e.val / 128, by omega⟩, ⟨e.val % 128, by omega⟩, Fin.ext (Nat.div_add_mod _ _).symm⟩
  rw [blockAt_eq, outG_apply, lam_congr _ _ _ _ (lq_block m c t) (lk_block m c t)]
  refine (out_eq _ _ _ _ _ h2 h3 h4 _ _ _ (batch t) (qtile t).val g q ⟨_, hq⟩ rfl (fun k p d => key_block m c t g k p d)
    (fun p d => query_block m c t g q p d) (fun e k => value_block m c t g e k) _ e).trans ?_
  refine Eq.trans ?_ (ref_apply _ _ _ _ _ _ (batch t) ⟨_, hq⟩ g e).symm
  exact congrArg (finish _ · e) (funext fun j => gain_block m c t j)

end Cert.KernelIdeal.Attn

namespace Cert.Proof

open Idealize.ShloMosaic Idealize.SL.Sem

/-- From the same arguments, the values and the lambda vectors real, the kernel and the reference end with the same result. -/
theorem algebraic [Cert.Pre_finite.Facts] : Cert.algebraic_KernelIdeal_ReferenceIdeal_pre_finite := by
  intro m g m' g' hpre hag
  refine ⟨fun c => (Cert.KernelIdeal.Attn.dats m 0 c).arrAt 6 Cert.KernelIdeal.cfg0.N, ?_, ?_⟩
  · exact (θ_run _ _ _).mono (fun _ h c => ⟨h.1 c, h.2.1 c⟩)
      (θ_run_and (Cert.KernelIdeal.Attn.launch_blocks m g) (Cert.KernelIdeal.Attn.frame m g))
  · refine (θ_run _ _ _).mono (fun _ h c => ⟨(h c).1.trans ?_, (h c).2⟩) (Cert.ReferenceIdeal.Value.run m' g')
    obtain ⟨e0, e1, e2, e3, e4, e5⟩ := hag c
    rw [Cert.ReferenceIdeal.Read.val_main_v65_eq, e0, e1, e2, e3, e4, e5]
    exact (Cert.KernelIdeal.Attn.result_eq m c (hpre c)).symm

end Cert.Proof
-- ==== Proof.MergeRow.lean ====
module

public import Idealize.ShloMosaic.Lib.Pointwise

@[expose] public section

noncomputable section

namespace MergeMath

open Idealize.ShloMosaic

/-! # One row of the merge and the feed-forward part -/

/-- The residual after the merge: the gated attention and the recurrent branch, through the output projection. -/
def resid (x o ga lr : Fin 1024 → EReal) (wba wo : Fin 1024 → Fin 1024 → EReal) (j : Fin 1024) : EReal :=
  x j + ∑ k, (ga k * (∑ i, o i * wba i k) + lr k) * wo k j

/-- The norm of a row, with its gain. -/
def norm (h g : Fin 1024 → EReal) (j : Fin 1024) : EReal :=
  h j * Ideal.rsqrt ((∑ k, h k * h k) * Ideal.ofBits .f32 0x3A800000#32 + Ideal.ofBits .f32 0x358637BD#32) * g j

/-- A feed-forward feature before it is squared. -/
def relu (n : Fin 1024 → EReal) (up : Fin 1024 → Fin 4096 → EReal) (f : Fin 4096) : EReal :=
  max (∑ k, n k * up k f) (Ideal.ofBits .f32 0x00000000#32)

/-- The feed-forward part. -/
def feed (n : Fin 1024 → EReal) (up : Fin 1024 → Fin 4096 → EReal) (down : Fin 4096 → Fin 1024 → EReal) (j : Fin 1024) : EReal :=
  ∑ f, relu n up f * relu n up f * down f j

/-- The row of the result. -/
def row (x o ga lr : Fin 1024 → EReal) (wba wo : Fin 1024 → Fin 1024 → EReal) (g1 : Fin 1024 → EReal)
    (up : Fin 1024 → Fin 4096 → EReal) (down : Fin 4096 → Fin 1024 → EReal) (g2 : Fin 1024 → EReal) : Fin 1024 → EReal :=
  norm (fun j => resid x o ga lr wba wo j + feed (norm (resid x o ga lr wba wo) g1) up down j) g2

theorem zeroBits : Ideal.ofBits .f32 0x00000000#32 = (0 : EReal) := by
  simp [Ideal.ofBits, Ideal.ieee]

/-- The mean over 1024 features: the reciprocal of 1024 is a number of the format. -/
theorem mean_eq (x : EReal) : Ideal.div x (Ideal.ofBits .f32 0x44800000#32) = x * Ideal.ofBits .f32 0x3A800000#32 := by
  have h1 : Ideal.ofBits .f32 0x44800000#32 = ((1024 : ℝ) : EReal) := by
    simp [Ideal.ofBits, Ideal.ieee]
    try (rw [← EReal.coe_mul]; norm_num)
  have h2 : Ideal.ofBits .f32 0x3A800000#32 = ((1 / 1024 : ℝ) : EReal) := by
    simp [Ideal.ofBits, Ideal.ieee]
    try (rw [← EReal.coe_mul]; norm_num)
  rw [h1, h2]
  exact Ideal.div_coe (by norm_num) x

/-- A sum over 4096 features by quarters. -/
theorem sum_quarters (F : Fin 4096 → EReal) :
    ∑ f, F f = ((∑ k : Fin 1024, F ⟨0 + k.val, by omega⟩) + (∑ k : Fin 1024, F ⟨1024 + k.val, by omega⟩)
      + (∑ k : Fin 1024, F ⟨2048 + k.val, by omega⟩)) + (∑ k : Fin 1024, F ⟨3072 + k.val, by omega⟩) := by
  have e : ∀ (n : ℕ) (G : Fin (n + 1024) → EReal), ∑ f, G f
      = (∑ f : Fin n, G ⟨f.val, by omega⟩) + ∑ k : Fin 1024, G ⟨n + k.val, by omega⟩ := fun n G => Fin.sum_univ_add G
  refine (e 3072 F).trans (congrArg₂ (· + ·) ((e 2048 _).trans (congrArg₂ (· + ·) ((e 1024 _).trans (congrArg₂ (· + ·) ?_ rfl)) rfl)) rfl)
  exact Finset.sum_congr rfl fun k _ => congrArg F (Fin.ext (Nat.zero_add _).symm)

end MergeMath
-- ==== Proof.MergeOut.lean ====
module

public import proofs.«01_k».proof.Proof.Gen.Kernel2Ideal.Value
public import proofs.«01_k».proof.Proof.MergeRow
public import Idealize.ShloMosaic.Lib.Pipeline.ValueKit.Tiles
public import Idealize.ShloMosaic.Lib.Pointwise

@[expose] public section

set_option maxRecDepth 16384

noncomputable section

namespace MergeMath

open Idealize.ShloMosaic Idealize.ShloMosaic.TcCoe Idealize.ShloMosaic.Tactic
open Idealize.SL.Sem Cert.Kernel2Ideal Cert.Kernel2Ideal.Gen

/-! # The output block of one grid point of the merge -/

theorem pay2_apply (o : FVec Ideal S512x1024 .bf16) (wba : FVec Ideal S1024x1024 .bf16) (ga lr x : FVec Ideal S512x1024 .f32)
    (wo : FVec Ideal S1024x1024 .bf16) (r : Fin 512) (j : Fin 1024) :
    k0_pay2 (F := Ideal) o wba ga lr x wo (ix2 r j) = resid (fun k => x (ix2 r k)) (fun k => o (ix2 r k)) (fun k => ga (ix2 r k))
      (fun k => lr (ix2 r k)) (fun i k => wba (ix2 i k)) (fun i k => wo (ix2 i k)) j := by
  unfold k0_pay2 resid
  pointwise

theorem pay3_apply (o : FVec Ideal S512x1024 .bf16) (wba : FVec Ideal S1024x1024 .bf16) (ga lr x : FVec Ideal S512x1024 .f32)
    (wo : FVec Ideal S1024x1024 .bf16) (g : FVec Ideal S1x1024 .f32) (r : Fin 512) (j : Fin 1024) :
    k0_pay3 (F := Ideal) o wba ga lr x wo g (ix2 r j)
      = norm (fun k => k0_pay2 (F := Ideal) o wba ga lr x wo (ix2 r k)) (fun k => g (ix2 0 k)) j := by
  unfold k0_pay3 norm
  generalize k0_pay2 (F := Ideal) o wba ga lr x wo = h
  pointwise

theorem pay4_apply (o : FVec Ideal S512x1024 .bf16) (wba : FVec Ideal S1024x1024 .bf16) (ga lr x : FVec Ideal S512x1024 .f32)
    (wo : FVec Ideal S1024x1024 .bf16) (g : FVec Ideal S1x1024 .f32) (u : FVec Ideal S1024x1024 .bf16) (r : Fin 512) (j : Fin 1024) :
    k0_pay4 (F := Ideal) o wba ga lr x wo g u (ix2 r j)
      = ∑ k : Fin 1024, k0_pay3 (F := Ideal) o wba ga lr x wo g (ix2 r k) * u (ix2 k j) := by
  unfold k0_pay4
  generalize k0_pay3 (F := Ideal) o wba ga lr x wo g = h
  pointwise

/-- A quarter of the features, squared, through its part of the second matrix. -/
def part (s : Fin 1024 → EReal) (w : Fin 1024 → Fin 1024 → EReal) (j : Fin 1024) : EReal :=
  ∑ f, max (s f) (Ideal.ofBits .f32 0x00000000#32) * max (s f) (Ideal.ofBits .f32 0x00000000#32) * w f j

theorem pay5_apply (n : FVec Ideal S512x1024 .bf16) (s : FVec Ideal S512x1024 .f32) (d0 u1 d1 u2 d2 : FVec Ideal S1024x1024 .bf16)
    (r : Fin 512) (j : Fin 1024) :
    k0_pay5 (F := Ideal) n s (Scalar.ofBits .f32 0x00000000#32) d0 u1 d1 u2 d2 (ix2 r j)
      = part (fun f => s (ix2 r f)) (fun f j => d0 (ix2 f j)) j
        + part (fun f => ∑ k : Fin 1024, n (ix2 r k) * u1 (ix2 k f)) (fun f j => d1 (ix2 f j)) j
        + part (fun f => ∑ k : Fin 1024, n (ix2 r k) * u2 (ix2 k f)) (fun f j => d2 (ix2 f j)) j := by
  unfold k0_pay5 part
  pointwise

theorem pay6_apply (n : FVec Ideal S512x1024 .bf16) (u : FVec Ideal S1024x1024 .bf16) (r : Fin 512) (f : Fin 1024) :
    k0_pay6 (F := Ideal) n u (ix2 r f)
      = max (∑ k : Fin 1024, n (ix2 r k) * u (ix2 k f)) (Ideal.ofBits .f32 0x00000000#32)
        * max (∑ k : Fin 1024, n (ix2 r k) * u (ix2 k f)) (Ideal.ofBits .f32 0x00000000#32) := by
  unfold k0_pay6
  pointwise

theorem pay1_apply (h p : FVec Ideal S512x1024 .f32) (a : FVec Ideal S512x1024 .bf16) (d : FVec Ideal S1024x1024 .bf16)
    (g : FVec Ideal S1x1024 .f32) (r : Fin 512) (j : Fin 1024) :
    k0_pay1 (F := Ideal) h p a d g (ix2 r j)
      = norm (fun j => h (ix2 r j) + (p (ix2 r j) + ∑ f : Fin 1024, a (ix2 r f) * d (ix2 f j))) (fun k => g (ix2 0 k)) j := by
  unfold k0_pay1 norm
  pointwise

theorem off0 : (![0, 0] : Fin 2 → ℕ) = fun _ => 0 := by
  funext a; fin_cases a <;> rfl

theorem ld0_f (X : Vec Ideal S512x1024 .f32) : View.ld X r0_0 = X := View.ld_unit_zero off0 _ X
theorem ld0_b (X : Vec Ideal S512x1024 .bf16) : View.ld X r0_0 = X := View.ld_unit_zero off0 _ X
theorem ld1_b (X : Vec Ideal S1024x1024 .bf16) : View.ld X r0_1 = X := View.ld_unit_zero off0 _ X
theorem ld2_f (X : Vec Ideal S1x1024 .f32) : View.ld X r0_2 = X := View.ld_unit_zero off0 _ X

theorem ldu0 (X : Vec Ideal S1024x4096 .bf16) (k f : Fin 1024) :
    View.ld X r0_3 (ix2 k f) = X (ix2 k ⟨0 + f.val, by omega⟩) :=
  View.ld_unit_apply_of X _ _ _ _ _ fun x => by fin_cases x <;> simp [ix2]
theorem ldd0 (X : Vec Ideal S4096x1024 .bf16) (f j : Fin 1024) :
    View.ld X r0_4 (ix2 f j) = X (ix2 ⟨0 + f.val, by omega⟩ j) :=
  View.ld_unit_apply_of X _ _ _ _ _ fun x => by fin_cases x <;> simp [ix2]
theorem ldu1 (X : Vec Ideal S1024x4096 .bf16) (k f : Fin 1024) :
    View.ld X r0_5 (ix2 k f) = X (ix2 k ⟨1024 + f.val, by omega⟩) :=
  View.ld_unit_apply_of X _ _ _ _ _ fun x => by fin_cases x <;> simp [ix2]
theorem ldd1 (X : Vec Ideal S4096x1024 .bf16) (f j : Fin 1024) :
    View.ld X r0_6 (ix2 f j) = X (ix2 ⟨1024 + f.val, by omega⟩ j) :=
  View.ld_unit_apply_of X _ _ _ _ _ fun x => by fin_cases x <;> simp [ix2]
theorem ldu2 (X : Vec Ideal S1024x4096 .bf16) (k f : Fin 1024) :
    View.ld X r0_7 (ix2 k f) = X (ix2 k ⟨2048 + f.val, by omega⟩) :=
  View.ld_unit_apply_of X _ _ _ _ _ fun x => by fin_cases x <;> simp [ix2]
theorem ldd2 (X : Vec Ideal S4096x1024 .bf16) (f j : Fin 1024) :
    View.ld X r0_8 (ix2 f j) = X (ix2 ⟨2048 + f.val, by omega⟩ j) :=
  View.ld_unit_apply_of X _ _ _ _ _ fun x => by fin_cases x <;> simp [ix2]
theorem ldu3 (X : Vec Ideal S1024x4096 .bf16) (k f : Fin 1024) :
    View.ld X r0_9 (ix2 k f) = X (ix2 k ⟨3072 + f.val, by omega⟩) :=
  View.ld_unit_apply_of X _ _ _ _ _ fun x => by fin_cases x <;> simp [ix2]
theorem ldd3 (X : Vec Ideal S4096x1024 .bf16) (f j : Fin 1024) :
    View.ld X r0_10 (ix2 f j) = X (ix2 ⟨3072 + f.val, by omega⟩ j) :=
  View.ld_unit_apply_of X _ _ _ _ _ fun x => by fin_cases x <;> simp [ix2]

variable (x0 : FVec Ideal S512x1024 .f32) (x1 : FVec Ideal S512x1024 .bf16) (x2 x3 : FVec Ideal S512x1024 .f32)
  (x4 x5 : FVec Ideal S1024x1024 .bf16) (x6 : FVec Ideal S1x1024 .f32) (x7 : FVec Ideal S1024x4096 .bf16) (x8 : FVec Ideal S4096x1024 .bf16)
  (x9 : FVec Ideal S1x1024 .f32)

/-- The block that the body leaves, row by row. -/
theorem out_apply (r : Fin 512) (j : Fin 1024) :
    out0_10 (F := Ideal) x0 x1 x2 x3 x4 x5 x6 x7 x8 x9 (ix2 r j)
      = row (fun k => x0 (ix2 r k)) (fun k => x1 (ix2 r k)) (fun k => x2 (ix2 r k)) (fun k => x3 (ix2 r k)) (fun i k => x4 (ix2 i k))
          (fun i k => x5 (ix2 i k)) (fun k => x6 (ix2 0 k)) (fun i k => x7 (ix2 i k)) (fun i k => x8 (ix2 i k)) (fun k => x9 (ix2 0 k)) j := by
  unfold out0_10 k0_pay7
  rw [View.canon_unit_zero off0, ld0_f x0, ld0_b x1, ld0_f x2, ld0_f x3, ld1_b x4, ld1_b x5, ld2_f x6, ld2_f x9]
  rw [pay1_apply]
  unfold row
  refine congrArg (norm · _ j) (funext fun j => ?_)
  rw [pay2_apply, pay5_apply]
  refine congrArg₂ (· + ·) rfl ?_
  unfold feed
  rw [sum_quarters]
  have hn : ∀ k, k0_pay3 (F := Ideal) x1 x4 x2 x3 x0 x5 x6 (ix2 r k) = norm (resid (fun k => x0 (ix2 r k)) (fun k => x1 (ix2 r k))
      (fun k => x2 (ix2 r k)) (fun k => x3 (ix2 r k)) (fun i k => x4 (ix2 i k)) (fun i k => x5 (ix2 i k))) (fun k => x6 (ix2 0 k)) k := fun k => by
    rw [pay3_apply]
    exact congrArg (norm · _ k) (funext fun j => pay2_apply _ _ _ _ _ _ r j)
  unfold part relu
  simp only [pay4_apply, pay6_apply, hn]
  refine congrArg₂ (· + ·) (congrArg₂ (· + ·) (congrArg₂ (· + ·) ?_ ?_) ?_) ?_
  · refine Finset.sum_congr rfl fun f _ => congrArg₂ (· * ·) ?_ (ldd0 x8 f j)
    exact (fun e => congrArg₂ (· * ·) e e) (congrArg (max · _) (Finset.sum_congr rfl fun k _ => congrArg₂ (· * ·) rfl (ldu0 x7 k f)))
  · refine Finset.sum_congr rfl fun f _ => congrArg₂ (· * ·) ?_ (ldd1 x8 f j)
    exact (fun e => congrArg₂ (· * ·) e e) (congrArg (max · _) (Finset.sum_congr rfl fun k _ => congrArg₂ (· * ·) rfl (ldu1 x7 k f)))
  · refine Finset.sum_congr rfl fun f _ => congrArg₂ (· * ·) ?_ (ldd2 x8 f j)
    exact (fun e => congrArg₂ (· * ·) e e) (congrArg (max · _) (Finset.sum_congr rfl fun k _ => congrArg₂ (· * ·) rfl (ldu2 x7 k f)))
  · refine Finset.sum_congr rfl fun f _ => congrArg₂ (· * ·) ?_ (ldd3 x8 f j)
    exact (fun e => congrArg₂ (· * ·) e e) (congrArg (max · _) (Finset.sum_congr rfl fun k _ => congrArg₂ (· * ·) rfl (ldu3 x7 k f)))

end MergeMath
-- ==== Proof.MergeRef.lean ====
module

public import proofs.«01_k».proof.Proof.Gen.Reference2Ideal.Read
public import proofs.«01_k».proof.Proof.MergeRow
public import Idealize.ShloMosaic.Lib.Pointwise

@[expose] public section

set_option maxRecDepth 16384

noncomputable section

namespace MergeMath

open Idealize.ShloMosaic Idealize.ShloMosaic.Tactic Idealize.SL.Sem Cert.Reference2Ideal Cert.Reference2Ideal.Gen Cert.Reference2Ideal.Read

/-! # What the reference of the merge computes, row by row -/

theorem ix1_of {n0 : ℕ} {y : (⟨1, ![n0]⟩ : Shape).Idx} {a : Fin n0} (h0 : y 0 = a) : y = ix1 a := by
  subst h0
  exact eq_ix1 y

theorem ix2_of {n0 n1 : ℕ} {y : (⟨2, ![n0, n1]⟩ : Shape).Idx} {a : Fin n0} {b : Fin n1} (h0 : y 0 = a) (h1 : y 1 = b) : y = ix2 a b := by
  subst h0 h1
  exact eq_ix2 y

theorem ix3_of {n0 n1 n2 : ℕ} {y : (⟨3, ![n0, n1, n2]⟩ : Shape).Idx} {a : Fin n0} {b : Fin n1} {c : Fin n2}
    (h0 : y 0 = a) (h1 : y 1 = b) (h2 : y 2 = c) : y = ix3 a b c := by
  subst h0 h1 h2
  exact eq_ix3 y

variable (x0 x1 x2 x3 : FVec Ideal S4x8192x1024 .f32) (x4 x5 : FVec Ideal S1x1024x1024 .f32) (x6 : FVec Ideal S1x1024 .f32)
  (x7 : FVec Ideal S1x1024x4096 .f32) (x8 : FVec Ideal S1x4096x1024 .f32) (x9 : FVec Ideal S1024 .f32) (b : Fin 4) (s : Fin 8192)

/-- The residual after the merge, at position `s` of batch `b`. -/
def refH (j : Fin 1024) : EReal :=
  resid (fun k => x0 (ix3 b s k)) (fun k => x1 (ix3 b s k)) (fun k => x2 (ix3 b s k)) (fun k => x3 (ix3 b s k))
    (fun i k => x4 (ix3 0 i k)) (fun i k => x5 (ix3 0 i k)) j

theorem v0_eq (i k : Fin 1024) : val_main_v0 (F := Ideal) x4 (ix2 i k) = x4 (ix3 0 i k) := by
  rw [val_main_v0_apply]
  exact congrArg x4 (ix3_of rfl (Fin.ext (by simp; try omega)) (Fin.ext (by simp; try omega)))

theorem v4_eq (i k : Fin 1024) : val_main_v4 (F := Ideal) x5 (ix2 i k) = x5 (ix3 0 i k) := by
  rw [val_main_v4_apply]
  exact congrArg x5 (ix3_of rfl (Fin.ext (by simp; try omega)) (Fin.ext (by simp; try omega)))

theorem v21_eq (i : Fin 1024) (k : Fin 4096) : val_main_v21 (F := Ideal) x7 (ix2 i k) = x7 (ix3 0 i k) := by
  rw [val_main_v21_apply]
  exact congrArg x7 (ix3_of rfl (Fin.ext (by simp; try omega)) (Fin.ext (by simp; try omega)))

theorem v25_eq (i : Fin 4096) (k : Fin 1024) : val_main_v25 (F := Ideal) x8 (ix2 i k) = x8 (ix3 0 i k) := by
  rw [val_main_v25_apply]
  exact congrArg x8 (ix3_of rfl (Fin.ext (by simp; try omega)) (Fin.ext (by simp; try omega)))

theorem v3_eq (k : Fin 1024) : val_main_v3 (F := Ideal) x1 x2 x3 x4 (ix3 b s k)
    = x2 (ix3 b s k) * (∑ i : Fin 1024, x1 (ix3 b s i) * x4 (ix3 0 i k)) + x3 (ix3 b s k) := by
  rw [val_main_v3_apply, val_main_v2_apply, val_main_v1_apply]
  refine congrArg₂ (· + ·) (congrArg₂ (· * ·) rfl (Finset.sum_congr rfl fun i _ => ?_)) rfl
  rw [← v0_eq x4]
  exact congrArg₂ (· * ·) (congrArg x1 (eq_ix3 _)) (congrArg _ (eq_ix2 _))

theorem v6_eq (j : Fin 1024) : val_main_v6 (F := Ideal) x0 x1 x2 x3 x4 x5 (ix3 b s j) = refH x0 x1 x2 x3 x4 x5 b s j := by
  rw [val_main_v6_apply, val_main_v5_apply]
  unfold refH resid
  refine congrArg₂ (· + ·) rfl (Finset.sum_congr rfl fun k _ => ?_)
  beta_reduce
  rw [← v3_eq, ← v4_eq x5]
  exact congrArg₂ (· * ·) (congrArg _ (eq_ix3 _)) (congrArg _ (eq_ix2 _))

theorem v15_eq : val_main_v15 (F := Ideal) x0 x1 x2 x3 x4 x5 (ix3 b s 0)
    = Ideal.rsqrt ((∑ k, refH x0 x1 x2 x3 x4 x5 b s k * refH x0 x1 x2 x3 x4 x5 b s k) * Ideal.ofBits .f32 0x3A800000#32
        + Ideal.ofBits .f32 0x358637BD#32) := by
  rw [val_main_v15_apply, val_main_v14_apply, val_main_v13_apply, val_main_cst_1_apply, val_main_v12_apply, val_main_v11_apply,
    val_main_cst_0_apply, val_main_v10_apply, val_main_v9_apply, val_main_cst_apply, ← mean_eq]
  refine congrArg Ideal.rsqrt (congrArg₂ (· + ·) (congrArg₂ Ideal.div
    ((congrArg₂ (· + ·) zeroBits (Finset.sum_congr rfl fun j _ => ?_)).trans (zero_add _)) rfl) rfl)
  rw [val_main_v8_apply, ← v6_eq]
  exact congrArg₂ (· * ·) (congrArg _ (eq_ix3 _)) (congrArg _ (eq_ix3 _))

/-- The row that the feed-forward part reads. -/
def refN (j : Fin 1024) : EReal := norm (refH x0 x1 x2 x3 x4 x5 b s) (fun k => x6 (ix2 0 k)) j

theorem v20_eq (j : Fin 1024) : val_main_v20 (F := Ideal) x0 x1 x2 x3 x4 x5 x6 (ix3 b s j) = refN x0 x1 x2 x3 x4 x5 x6 b s j := by
  rw [val_main_v20_apply, val_main_v17_apply, val_main_v16_apply, val_main_v19_apply, val_main_v18_apply, val_main_v7_apply, v6_eq]
  unfold refN norm
  rw [← v15_eq]
  refine congrArg₂ (· * ·) (congrArg₂ (· * ·) rfl (congrArg _ (eq_ix3 _))) (congrArg x6 ?_)
  exact ix2_of rfl (Fin.ext (by simp; try omega))

theorem v23_eq (f : Fin 4096) : val_main_v23 (F := Ideal) x0 x1 x2 x3 x4 x5 x6 x7 (ix3 b s f)
    = relu (refN x0 x1 x2 x3 x4 x5 x6 b s) (fun i k => x7 (ix3 0 i k)) f := by
  rw [val_main_v23_apply, val_main_v22_apply, val_main_call0_v0_apply, val_main_call0_cst_apply]
  unfold relu
  refine congrArg₂ max (Finset.sum_congr rfl fun k _ => ?_) rfl
  beta_reduce
  rw [← v20_eq, ← v21_eq x7]
  exact congrArg₂ (· * ·) (congrArg _ (eq_ix3 _)) (congrArg _ (eq_ix2 _))

/-- The row before the last norm. -/
def refY (j : Fin 1024) : EReal :=
  refH x0 x1 x2 x3 x4 x5 b s j + feed (refN x0 x1 x2 x3 x4 x5 x6 b s) (fun i k => x7 (ix3 0 i k)) (fun i k => x8 (ix3 0 i k)) j

theorem v27_eq (j : Fin 1024) : val_main_v27 (F := Ideal) x0 x1 x2 x3 x4 x5 x6 x7 x8 (ix3 b s j)
    = refY x0 x1 x2 x3 x4 x5 x6 x7 x8 b s j := by
  rw [val_main_v27_apply, val_main_v26_apply, v6_eq]
  unfold refY feed
  refine congrArg₂ (· + ·) rfl (Finset.sum_congr rfl fun f _ => ?_)
  beta_reduce
  rw [val_main_v24_apply, ← v23_eq, ← v25_eq x8]
  exact congrArg₂ (· * ·) (congrArg₂ (· * ·) (congrArg _ (eq_ix3 _)) (congrArg _ (eq_ix3 _))) (congrArg _ (eq_ix2 _))

theorem v35_eq : val_main_v35 (F := Ideal) x0 x1 x2 x3 x4 x5 x6 x7 x8 (ix3 b s 0)
    = Ideal.rsqrt ((∑ k, refY x0 x1 x2 x3 x4 x5 x6 x7 x8 b s k * refY x0 x1 x2 x3 x4 x5 x6 x7 x8 b s k) * Ideal.ofBits .f32 0x3A800000#32
        + Ideal.ofBits .f32 0x358637BD#32) := by
  rw [val_main_v35_apply, val_main_v34_apply, val_main_v33_apply, val_main_cst_4_apply, val_main_v32_apply, val_main_v31_apply,
    val_main_cst_3_apply, val_main_v30_apply, val_main_v29_apply, val_main_cst_2_apply, ← mean_eq]
  refine congrArg Ideal.rsqrt (congrArg₂ (· + ·) (congrArg₂ Ideal.div
    ((congrArg₂ (· + ·) zeroBits (Finset.sum_congr rfl fun j _ => ?_)).trans (zero_add _)) rfl) rfl)
  rw [val_main_v28_apply, ← v27_eq]
  exact congrArg₂ (· * ·) (congrArg _ (eq_ix3 _)) (congrArg _ (eq_ix3 _))

/-- The reference's result at row `8192 * b + s`. -/
theorem ref_apply (j : Fin 1024) :
    val_main_v41 (F := Ideal) x0 x1 x2 x3 x4 x5 x6 x7 x8 x9 (ix2 ⟨8192 * b.val + s.val, by omega⟩ j)
      = row (fun k => x0 (ix3 b s k)) (fun k => x1 (ix3 b s k)) (fun k => x2 (ix3 b s k)) (fun k => x3 (ix3 b s k))
          (fun i k => x4 (ix3 0 i k)) (fun i k => x5 (ix3 0 i k)) (fun k => x6 (ix2 0 k)) (fun i k => x7 (ix3 0 i k))
          (fun i k => x8 (ix3 0 i k)) (fun k => x9 (ix1 k)) j := by
  rw [val_main_v41_apply]
  have hi : idx_main_v41 (ix2 ⟨8192 * b.val + s.val, by omega⟩ j) = ix3 b s j := by
    refine ix3_of (Fin.ext ?_) (Fin.ext ?_) (Fin.ext ?_)
    all_goals
      simp
      try omega
  rw [hi, val_main_v40_apply, val_main_v37_apply, val_main_v36_apply, val_main_v39_apply, val_main_v38_apply, v27_eq]
  refine Eq.trans ?_ (show norm (refY x0 x1 x2 x3 x4 x5 x6 x7 x8 b s) (fun k => x9 (ix1 k)) j = _ from rfl)
  unfold norm
  rw [← v35_eq]
  refine congrArg₂ (· * ·) (congrArg₂ (· * ·) rfl (congrArg _ (eq_ix3 _))) (congrArg x9 ?_)
  exact ix1_of (Fin.ext (by simp; try omega))

end MergeMath
-- ==== Proof.MergeValue.lean ====
module

public import proofs.«01_k».proof.Defs
public import proofs.«01_k».proof.Proof.MergeOut
public import proofs.«01_k».proof.Proof.MergeRef
public import proofs.«01_k».proof.Proof.Gen.Kernel2Ideal.Value
public import proofs.«01_k».proof.Proof.Gen.Reference2Ideal.Run
public import Idealize.ShloMosaic.Lib.Pipeline.ValueKit.Point
public import Idealize.ShloMosaic.Lib.Pointwise
public import Idealize.ShloMosaic.Lib.Quiescent

@[expose] public section

set_option maxRecDepth 16384
set_option maxHeartbeats 400000

noncomputable section

namespace Cert.Kernel2Ideal.Merge

open Cert.Kernel2Ideal.Gen
open Idealize.ShloMosaic Idealize.ShloMosaic.TcCoe Idealize.ShloMosaic.Tactic
open Idealize.SL Idealize.SL.Sem

variable (m : (ℓ : Loc nD τ sig) → Buf (Elt Ideal) ℓ)

/-! # The input blocks of a grid point, from the arguments -/

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![(grid0.coords t 0).val, 0] := (by decide +kernel : ∀ t : Fin grid0.N, _)
theorem index10 : ∀ t : Fin cfg0.N, win0_10.index t = ![(grid0.coords t 0).val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)

/-- The tile of rows a grid point works on. -/
abbrev tile (t : Fin cfg0.N) : Fin 64 := grid0.coords t 0

/-- The batch of a grid point's rows. -/
abbrev batch (t : Fin cfg0.N) : Fin 4 := ⟨(tile t).val / 16, by have := (tile t).isLt; omega⟩

/-- The position of a grid point's row in its batch. -/
abbrev pos (t : Fin cfg0.N) (r : Fin 512) : Fin 8192 := ⟨512 * ((tile t).val % 16) + r.val, by omega⟩

theorem block0 (c : Dev nD) (t : Fin cfg0.N) (r : Fin 512) (k : Fin 1024) :
    (iblk m c 0 t : FVec Ideal S512x1024 .f32) (ix2 r k) = m ((c : Thread nD τ).loc main_arg0) (ix3 (batch t) (pos t r) k) := by
  have := (tile t).isLt
  blk_ext! [iblk, V, index0 t]
  · show ((grid0.coords t 0).val * 512 + r.val) / 8192 = (grid0.coords t 0).val / 16
    omega
  · show ((grid0.coords t 0).val * 512 + r.val) % 8192 = 512 * ((grid0.coords t 0).val % 16) + r.val
    omega

theorem block1 (c : Dev nD) (t : Fin cfg0.N) (r : Fin 512) (k : Fin 1024) :
    (iblk m c 1 t : FVec Ideal S512x1024 .bf16) (ix2 r k) = m ((c : Thread nD τ).loc main_arg1) (ix3 (batch t) (pos t r) k) := by
  have := (tile t).isLt
  blk_ext! [iblk, V, index1 t]
  · show ((grid0.coords t 0).val * 512 + r.val) / 8192 = (grid0.coords t 0).val / 16
    omega
  · show ((grid0.coords t 0).val * 512 + r.val) % 8192 = 512 * ((grid0.coords t 0).val % 16) + r.val
    omega

theorem block2 (c : Dev nD) (t : Fin cfg0.N) (r : Fin 512) (k : Fin 1024) :
    (iblk m c 2 t : FVec Ideal S512x1024 .f32) (ix2 r k) = m ((c : Thread nD τ).loc main_arg2) (ix3 (batch t) (pos t r) k) := by
  have := (tile t).isLt
  blk_ext! [iblk, V, index2 t]
  · show ((grid0.coords t 0).val * 512 + r.val) / 8192 = (grid0.coords t 0).val / 16
    omega
  · show ((grid0.coords t 0).val * 512 + r.val) % 8192 = 512 * ((grid0.coords t 0).val % 16) + r.val
    omega

theorem block3 (c : Dev nD) (t : Fin cfg0.N) (r : Fin 512) (k : Fin 1024) :
    (iblk m c 3 t : FVec Ideal S512x1024 .f32) (ix2 r k) = m ((c : Thread nD τ).loc main_arg3) (ix3 (batch t) (pos t r) k) := by
  have := (tile t).isLt
  blk_ext! [iblk, V, index3 t]
  · show ((grid0.coords t 0).val * 512 + r.val) / 8192 = (grid0.coords t 0).val / 16
    omega
  · show ((grid0.coords t 0).val * 512 + r.val) % 8192 = 512 * ((grid0.coords t 0).val % 16) + r.val
    omega

theorem block4 (c : Dev nD) (t : Fin cfg0.N) (i k : Fin 1024) :
    (iblk m c 4 t : FVec Ideal S1024x1024 .bf16) (ix2 i k) = m ((c : Thread nD τ).loc main_arg4) (ix3 0 i k) := by
  blk_ext! [iblk, V, index4 t]

theorem block5 (c : Dev nD) (t : Fin cfg0.N) (i k : Fin 1024) :
    (iblk m c 5 t : FVec Ideal S1024x1024 .bf16) (ix2 i k) = m ((c : Thread nD τ).loc main_arg5) (ix3 0 i k) := by
  blk_ext! [iblk, V, index5 t]

theorem block6 (c : Dev nD) (t : Fin cfg0.N) (k : Fin 1024) :
    (iblk m c 6 t : FVec Ideal S1x1024 .f32) (ix2 0 k) = m ((c : Thread nD τ).loc main_arg6) (ix2 0 k) := by
  blk_ext! [iblk, V, index6 t]

theorem block7 (c : Dev nD) (t : Fin cfg0.N) (i : Fin 1024) (k : Fin 4096) :
    (iblk m c 7 t : FVec Ideal S1024x4096 .bf16) (ix2 i k) = m ((c : Thread nD τ).loc main_arg7) (ix3 0 i k) := by
  blk_ext! [iblk, V, index7 t]

theorem block8 (c : Dev nD) (t : Fin cfg0.N) (i : Fin 4096) (k : Fin 1024) :
    (iblk m c 8 t : FVec Ideal S4096x1024 .bf16) (ix2 i k) = m ((c : Thread nD τ).loc main_arg8) (ix3 0 i k) := by
  blk_ext! [iblk, V, index8 t]

theorem block9 (c : Dev nD) (t : Fin cfg0.N) (k : Fin 1024) :
    (iblk m c 9 t : FVec Ideal S1x1024 .f32) (ix2 0 k) = m ((c : Thread nD τ).loc main_arg9) (ix1 k) := by
  blk_ext! [iblk, V, index9 t]

/-- The result is the reference's, as a function of the arguments. -/
theorem result_eq (c : Dev nD) : (dats m 0 c).arrAt 10 cfg0.N
    = Cert.Reference2Ideal.Read.val_main_v41 (F := Ideal)
        (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  blk_simp
  rw [after0_10]
  obtain ⟨r, j, rfl⟩ : ∃ (r : Fin 512) (j : Fin 1024), y = ix2 r j := ⟨y 0, y 1, eq_ix2 y⟩
  have ht := (tile t).isLt
  refine (MergeMath.out_apply _ _ _ _ _ _ _ _ _ _ r j).trans ?_
  simp only [block0 m c t, block1 m c t, block2 m c t, block3 m c t, block4 m c t, block5 m c t, block6 m c t, block7 m c t, block8 m c t,
    block9 m c t]
  refine (MergeMath.ref_apply _ _ _ _ _ _ _ _ _ _ (batch t) (pos t r) j).symm.trans (congrArg (Cert.Reference2Ideal.Read.val_main_v41 (F := Ideal)
    _ _ _ _ _ _ _ _ _ _) ?_)
  blk_ext [index10 t]
  show 8192 * ((grid0.coords t 0).val / 16) + (512 * ((grid0.coords t 0).val % 16) + r.val) = (grid0.coords t 0).val * 512 + r.val
  omega

end Cert.Kernel2Ideal.Merge

namespace Cert.Proof

open Idealize.ShloMosaic Idealize.SL.Sem

/-- The merge's reference ends with its arguments as launched, and has no counters. -/
theorem reference2_frame : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)

/-- From the same arguments the merge and its reference end with the same result. -/
theorem algebraic2 : Cert.algebraic_Kernel2Ideal_Reference2Ideal := by
  intro m g m' g' _ hag
  refine ⟨fun c => (Cert.Kernel2Ideal.Gen.dats m 0 c).arrAt 10 Cert.Kernel2Ideal.cfg0.N, Cert.Kernel2Ideal.Value.run_blocks m g, ?_⟩
  refine (θ_run _ _ _).mono (fun _ h c => ⟨(h c).1.trans ?_, (h c).2⟩) (Cert.Reference2Ideal.Value.run m' g')
  obtain ⟨e0, e1, e2, e3, e4, e5, e6, e7, e8, e9⟩ := hag c
  rw [Cert.Reference2Ideal.Read.val_main_v41_eq, e0, e1, e2, e3, e4, e5, e6, e7, e8, e9]
  exact (Cert.Kernel2Ideal.Merge.result_eq m c).symm

end Cert.Proof

end
-- ==== Proof.lean ====
module

public import proofs.«01_k».proof.Defs
public import proofs.«01_k».proof.Proof.Gen.Kernel
public import proofs.«01_k».proof.Proof.Gen.KernelIdeal
public import proofs.«01_k».proof.Proof.KernelFrame
public import proofs.«01_k».proof.Proof.IdealFrame
public import proofs.«01_k».proof.Proof.Sides
public import proofs.«01_k».proof.Proof.Value
public import proofs.«01_k».proof.Proof.Gen.Pre_finite
public import proofs.«01_k».proof.Proof.Gen.ReferenceIdeal.Run
public import proofs.«01_k».proof.Proof.MergeValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.ReferenceIdeal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite.Gen.facts,
    fun m g _ => Cert.Kernel.Attn.frame m g,
    fun m g _ => Cert.KernelIdeal.Attn.frame m g,
    fun m g _ => Cert.KernelIdeal.Attn.frame m g,
    fun m g _ => reference_frame m g,
    fun m g _ => reference_frame m g,
    fun m g _ => Cert.Kernel2.Gen.frame m g,
    fun m g _ => Cert.Kernel2Ideal.Gen.frame m g,
    reference2_frame,
    preserves,
    algebraic,
    trivial,
    algebraic2⟩

end Cert.Proof

end
